-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v45) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v76) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)) (v2 : (c : Dev Cert.Kernel10Ideal.nD) → Buf (Elt Ideal) ((c.tc : Thread Cert.Kernel10Ideal.nD Cert.Kernel10Ideal.τ).loc Cert.Kernel10Ideal.main_v9_2)) (v3 : (c : Dev Cert.Kernel10Ideal.nD) → Buf (Elt Ideal) ((c.tc : Thread Cert.Kernel10Ideal.nD Cert.Kernel10Ideal.τ).loc Cert.Kernel10Ideal.main_v9_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_v9_2) = v2 c
          ∧ r.2.mem ((c.tc : Thread Cert.Kernel10Ideal.nD Cert.Kernel10Ideal.τ).loc Cert.Kernel10Ideal.main_v9_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v90) = v0 c
          ∧ r.2.mem ((c.tc : Thread Cert.Reference10Ideal.nD Cert.Reference10Ideal.τ).loc Cert.Reference10Ideal.main_v87) = v1 c
          ∧ r.2.mem ((c.tc : Thread Cert.Reference10Ideal.nD Cert.Reference10Ideal.τ).loc Cert.Reference10Ideal.main_v91) = v2 c
          ∧ r.2.mem ((c.tc : Thread Cert.Reference10Ideal.nD Cert.Reference10Ideal.τ).loc Cert.Reference10Ideal.main_v92) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)) (v2 : (c : Dev Cert.Kernel11Ideal.nD) → Buf (Elt Ideal) ((c.tc : Thread Cert.Kernel11Ideal.nD Cert.Kernel11Ideal.τ).loc Cert.Kernel11Ideal.main_v6_2)) (v3 : (c : Dev Cert.Kernel11Ideal.nD) → Buf (Elt Ideal) ((c.tc : Thread Cert.Kernel11Ideal.nD Cert.Kernel11Ideal.τ).loc Cert.Kernel11Ideal.main_v6_3)) (v4 : (c : Dev Cert.Kernel11Ideal.nD) → Buf (Elt Ideal) ((c.tc : Thread Cert.Kernel11Ideal.nD Cert.Kernel11Ideal.τ).loc Cert.Kernel11Ideal.main_v6_4)) (v5 : (c : Dev Cert.Kernel11Ideal.nD) → Buf (Elt Ideal) ((c.tc : Thread Cert.Kernel11Ideal.nD Cert.Kernel11Ideal.τ).loc Cert.Kernel11Ideal.main_v6_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_v6_2) = v2 c
          ∧ r.2.mem ((c.tc : Thread Cert.Kernel11Ideal.nD Cert.Kernel11Ideal.τ).loc Cert.Kernel11Ideal.main_v6_3) = v3 c
          ∧ r.2.mem ((c.tc : Thread Cert.Kernel11Ideal.nD Cert.Kernel11Ideal.τ).loc Cert.Kernel11Ideal.main_v6_4) = v4 c
          ∧ r.2.mem ((c.tc : Thread Cert.Kernel11Ideal.nD Cert.Kernel11Ideal.τ).loc Cert.Kernel11Ideal.main_v6_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v45) = v0 c
          ∧ r.2.mem ((c.tc : Thread Cert.Reference11Ideal.nD Cert.Reference11Ideal.τ).loc Cert.Reference11Ideal.main_v40) = v1 c
          ∧ r.2.mem ((c.tc : Thread Cert.Reference11Ideal.nD Cert.Reference11Ideal.τ).loc Cert.Reference11Ideal.main_v46) = v2 c
          ∧ r.2.mem ((c.tc : Thread Cert.Reference11Ideal.nD Cert.Reference11Ideal.τ).loc Cert.Reference11Ideal.main_v47) = v3 c
          ∧ r.2.mem ((c.tc : Thread Cert.Reference11Ideal.nD Cert.Reference11Ideal.τ).loc Cert.Reference11Ideal.main_v48) = v4 c
          ∧ r.2.mem ((c.tc : Thread Cert.Reference11Ideal.nD Cert.Reference11Ideal.τ).loc Cert.Reference11Ideal.main_v49) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v48_1)) (v1 : (c : Dev Cert.Kernel12Ideal.nD) → Buf (Elt Ideal) ((c.tc : Thread Cert.Kernel12Ideal.nD Cert.Kernel12Ideal.τ).loc Cert.Kernel12Ideal.main_v48_2)) (v2 : (c : Dev Cert.Kernel12Ideal.nD) → Buf (Elt Ideal) ((c.tc : Thread Cert.Kernel12Ideal.nD Cert.Kernel12Ideal.τ).loc Cert.Kernel12Ideal.main_v48_5)) (v3 : (c : Dev Cert.Kernel12Ideal.nD) → Buf (Elt Ideal) ((c.tc : Thread Cert.Kernel12Ideal.nD Cert.Kernel12Ideal.τ).loc Cert.Kernel12Ideal.main_v48_6)) (v4 : (c : Dev Cert.Kernel12Ideal.nD) → Buf (Elt Ideal) ((c.tc : Thread Cert.Kernel12Ideal.nD Cert.Kernel12Ideal.τ).loc Cert.Kernel12Ideal.main_v48_7)) (v5 : (c : Dev Cert.Kernel12Ideal.nD) → Buf (Elt Ideal) ((c.tc : Thread Cert.Kernel12Ideal.nD Cert.Kernel12Ideal.τ).loc Cert.Kernel12Ideal.main_v48_8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v48_1) = v0 c
          ∧ r.2.mem ((c.tc : Thread Cert.Kernel12Ideal.nD Cert.Kernel12Ideal.τ).loc Cert.Kernel12Ideal.main_v48_2) = v1 c
          ∧ r.2.mem ((c.tc : Thread Cert.Kernel12Ideal.nD Cert.Kernel12Ideal.τ).loc Cert.Kernel12Ideal.main_v48_5) = v2 c
          ∧ r.2.mem ((c.tc : Thread Cert.Kernel12Ideal.nD Cert.Kernel12Ideal.τ).loc Cert.Kernel12Ideal.main_v48_6) = v3 c
          ∧ r.2.mem ((c.tc : Thread Cert.Kernel12Ideal.nD Cert.Kernel12Ideal.τ).loc Cert.Kernel12Ideal.main_v48_7) = v4 c
          ∧ r.2.mem ((c.tc : Thread Cert.Kernel12Ideal.nD Cert.Kernel12Ideal.τ).loc Cert.Kernel12Ideal.main_v48_8) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_v36) = v2 c
          ∧ r.2.mem ((c.tc : Thread Cert.Reference12Ideal.nD Cert.Reference12Ideal.τ).loc Cert.Reference12Ideal.main_v37) = v3 c
          ∧ r.2.mem ((c.tc : Thread Cert.Reference12Ideal.nD Cert.Reference12Ideal.τ).loc Cert.Reference12Ideal.main_v38) = v4 c
          ∧ r.2.mem ((c.tc : Thread Cert.Reference12Ideal.nD Cert.Reference12Ideal.τ).loc Cert.Reference12Ideal.main_v39) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite2 : Cert.Pre_finite2.Facts) (hPre_finite10 : Cert.Pre_finite10.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite10.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1x1024 .f32) (main_arg5 : FVec F S1x1024 .f32) (main_arg6 : FVec F S1x1024 .f32) (main_arg7 : FVec F S1x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_v3 main_v7 main_v11 main_v15 main_v19 main_v23 main_v27 main_v31

def fn {F : FTy → Type} [FloatOps F] (main_arg0 : FVec F S4096x1024 .f32) (main_arg1 : FVec F S4096x1024 .f32) (main_arg2 : FVec F S1024x4096 .f32) (main_arg3 : FVec F S4096x1024 .f32) (main_arg4 : FVec F S1x1024 .f32) (main_arg5 : FVec F S1x1024 .f32) (main_arg6 : FVec F S1x1024 .f32) (main_arg7 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_arg6 main_arg7 main_v3 main_v7 main_v11 main_v15
-- ==== Pre_finite2.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S1024x4096 .f32) (main_arg5 : FVec F S4096x1024 .f32) (main_v3 : IVec S_ 1) (main_v7 : IVec S_ 1) (main_v11 : IVec S_ 1) (main_v15 : IVec S_ 1) : IVec S_ 1 :=
  let main_v16 : FVec F S1024x4096 .f32 := Host.absf main_arg4
  let main_cst_6 : FVec F S_ .f32 := constant S_ .f32 0x7F800000#32
  let main_v17 : FVec F S1024x4096 .f32 := broadcastInDim S1024x4096 ![] bcast_S_S1024x4096 main_cst_6
  let main_v18 : IVec S1024x4096 1 := cmpf .olt main_v16 main_v17
  let main_c_7 : IVec S_ 1 := constantI S_ 1 1#1
  let main_v19 : IVec S_ 1 := (fun x v => Host.reduce IntOp.andi x v reducesTo_S1024x4096_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1024x4096 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_v3 main_v7 main_v11 main_v15
-- ==== Kernel.lean ====
abbrev S4096x1024 : Shape := ⟨2, ![4096, 1024]⟩
abbrev S4096x2048 : Shape := ⟨2, ![4096, 2048]⟩
abbrev S4096x512 : Shape := ⟨2, ![4096, 512]⟩
abbrev S2x1024 : Shape := ⟨2, ![2, 1024]⟩
abbrev S512x1024 : Shape := ⟨2, ![512, 1024]⟩
abbrev S1024x1024 : Shape := ⟨2, ![1024, 1024]⟩
abbrev S8x1024 : Shape := ⟨2, ![8, 1024]⟩
abbrev S512x2048 : Shape := ⟨2, ![512, 2048]⟩
abbrev S512x512 : Shape := ⟨2, ![512, 512]⟩
abbrev S1x1024 : Shape := ⟨2, ![1, 1024]⟩
abbrev S1024 : Shape := ⟨1, ![1024]⟩

abbrev nBuf : Space → Nat
  | .hbm => 23
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x512, .f32⟩
  | .hbm, ⟨3, _⟩ => ⟨S4096x512, .f32⟩
  | .hbm, ⟨4, _⟩ => ⟨S2x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x2048, .bf16⟩
  | .hbm, ⟨12, _⟩ => ⟨S4096x1024, .bf16⟩
  | .hbm, ⟨13, _⟩ => ⟨S4096x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S4096x2048, .bf16⟩
  | .hbm, ⟨18, _⟩ => ⟨S4096x1024, .bf16⟩
  | .hbm, ⟨19, _⟩ => ⟨S4096x1024, .bf16⟩
  | .hbm, ⟨20, _⟩ => ⟨S4096x512, .bf16⟩
  | .hbm, ⟨21, _⟩ => ⟨S4096x512, .bf16⟩
  | .hbm, ⟨22, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4096x1024 : Shape := ⟨2, ![4096, 1024]⟩
abbrev S4096x2048 : Shape := ⟨2, ![4096, 2048]⟩
abbrev S4096x512 : Shape := ⟨2, ![4096, 512]⟩
abbrev S2x1024 : Shape := ⟨2, ![2, 1024]⟩
abbrev S512x1024 : Shape := ⟨2, ![512, 1024]⟩
abbrev S1024x1024 : Shape := ⟨2, ![1024, 1024]⟩
abbrev S4096x2x1024 : Shape := ⟨3, ![4096, 2, 1024]⟩
abbrev S1x2x1024 : Shape := ⟨3, ![1, 2, 1024]⟩
abbrev S_ : Shape := ⟨0, ![]⟩
abbrev S4096x1x1024 : Shape := ⟨3, ![4096, 1, 1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x512, .f32⟩
  | .hbm, ⟨3, _⟩ => ⟨S4096x512, .f32⟩
  | .hbm, ⟨4, _⟩ => ⟨S2x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x2x1024, .f32⟩
  | .hbm, ⟨11, _⟩ => ⟨S1x2x1024, .f32⟩
  | .hbm, ⟨12, _⟩ => ⟨S4096x2x1024, .f32⟩
  | .hbm, ⟨13, _⟩ => ⟨S4096x2x1024, .f32⟩
  | .hbm, ⟨14, _⟩ => ⟨S4096x2x1024, .f32⟩
  | .hbm, ⟨15, _⟩ => ⟨S4096x2x1024, .f32⟩
  | .hbm, ⟨16, _⟩ => ⟨S_, .f32⟩
  | .hbm, ⟨17, _⟩ => ⟨S4096x2x1024, .f32⟩
  | .hbm, ⟨18, _⟩ => ⟨S4096x2x1024, .f32⟩
  | .hbm, ⟨19, _⟩ => ⟨S_, .f32⟩
  | .hbm, ⟨20, _⟩ => ⟨S4096x2x1024, .f32⟩
  | .hbm, ⟨21, _⟩ => ⟨S4096x2x1024, .f32⟩
  | .hbm, ⟨22, _⟩ => ⟨S_, .f32⟩
  | .hbm, ⟨23, _⟩ => ⟨S4096x2x1024, .f32⟩
  | .hbm, ⟨24, _⟩ => ⟨S4096x2x1024, .f32⟩
  | .hbm, ⟨25, _⟩ => ⟨S4096x2x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1x1024, .f32⟩
  | .hbm, ⟨38, _⟩ => ⟨S_, .f32⟩
  | .hbm, ⟨39, _⟩ => ⟨S4096x2x1024, .f32⟩
  | .hbm, ⟨40, _⟩ => ⟨S4096x1024, .f32⟩
  | .hbm, ⟨41, _⟩ => ⟨S4096x1024, .f32⟩
  | .hbm, ⟨42, _⟩ => ⟨S4096x1x1024, .f32⟩
  | .hbm, ⟨43, _⟩ => ⟨S_, .f32⟩
  | .hbm, ⟨44, _⟩ => ⟨S4096x2x1024, .f32⟩
  | .hbm, ⟨45, _⟩ => ⟨S4096x2x1024, .f32⟩
  | .hbm, ⟨46, _⟩ => ⟨S4096x2x1024, .f32⟩
  | .hbm, ⟨47, _⟩ => ⟨S_, .f32⟩
  | .hbm, ⟨48, _⟩ => ⟨S2x1024, .f32⟩
  | .hbm, ⟨49, _⟩ => ⟨S1x2x1024, .f32⟩
  | .hbm, ⟨50, _⟩ => ⟨S_, .f32⟩
  | .hbm, ⟨51, _⟩ => ⟨S2x1024, .f32⟩
  | .hbm, ⟨52, _⟩ => ⟨S4096x2048, .f32⟩
  | .hbm, ⟨53, _⟩ => ⟨S4096x512, .f32⟩
  | .hbm, ⟨54, _⟩ => ⟨S4096x512, .f32⟩
  | .hbm, ⟨55, _⟩ => ⟨S4096x2048, .bf16⟩
  | .hbm, ⟨56, _⟩ => ⟨S4096x1024, .bf16⟩
  | .hbm, ⟨57, _⟩ => ⟨S4096x1024, .bf16⟩
  | .hbm, ⟨58, _⟩ => ⟨S4096x512, .bf16⟩
  | .hbm, ⟨59, _⟩ => ⟨S4096x512, .bf16⟩
  | .hbm, ⟨60, _⟩ => ⟨S_, .i32⟩
  | .hbm, ⟨61, _⟩ => ⟨S_, .f32⟩
  | .hbm, ⟨62, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_call0_v0 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x8x512 : Shape := ⟨3, ![1024, 8, 512]⟩
abbrev S8x1024x512 : Shape := ⟨3, ![8, 1024, 512]⟩
abbrev S4096x128 : Shape := ⟨2, ![4096, 128]⟩
abbrev S8x1024 : Shape := ⟨2, ![8, 1024]⟩
abbrev S512x1024 : Shape := ⟨2, ![512, 1024]⟩
abbrev S512x2048 : Shape := ⟨2, ![512, 2048]⟩
abbrev S512x128 : Shape := ⟨2, ![512, 128]⟩
abbrev S4x1024x512 : Shape := ⟨3, ![4, 1024, 512]⟩
abbrev S2048x1024 : Shape := ⟨2, ![2048, 1024]⟩
abbrev S512x512 : Shape := ⟨2, ![512, 512]⟩
abbrev S1x1024x512 : Shape := ⟨3, ![1, 1024, 512]⟩
abbrev S1024x512 : Shape := ⟨2, ![1024, 512]⟩
abbrev S512x1 : Shape := ⟨2, ![512, 1]⟩
abbrev S512 : Shape := ⟨1, ![512]⟩
abbrev S1024 : Shape := ⟨1, ![1024]⟩

abbrev nBuf : Space → Nat
  | .hbm => 45
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S1024x4096, .bf16⟩
  | .hbm, ⟨33, _⟩ => ⟨S4096x4096, .f32⟩
  | .hbm, ⟨34, _⟩ => ⟨S4096x4096, .bf16⟩
  | .hbm, ⟨35, _⟩ => ⟨S1024x4096, .bf16⟩
  | .hbm, ⟨36, _⟩ => ⟨S1024x8x512, .bf16⟩
  | .hbm, ⟨37, _⟩ => ⟨S8x1024x512, .bf16⟩
  | .hbm, ⟨38, _⟩ => ⟨S4096x1024, .bf16⟩
  | .hbm, ⟨39, _⟩ => ⟨S4096x128, .f32⟩
  | .hbm, ⟨40, _⟩ => ⟨S4096x1024, .bf16⟩
  | .hbm, ⟨41, _⟩ => ⟨S4096x4096, .bf16⟩
  | .hbm, ⟨42, _⟩ => ⟨S4096x1024, .f32⟩
  | .hbm, ⟨43, _⟩ => ⟨S4096x1024, .bf16⟩
  | .hbm, ⟨44, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S4x1024x512, .bf16⟩
  | .local _ .vmem, ⟨11, _⟩ => ⟨S4x1024x512, .bf16⟩
  | .local _ .vmem, ⟨12, _⟩ => ⟨S2048x1024, .bf16⟩
  | .local _ .vmem, ⟨13, _⟩ => ⟨S2048x1024, .bf16⟩
  | .local _ .vmem, ⟨14, _⟩ => ⟨S1x1024, .f32⟩
  | .local _ .vmem, ⟨15, _⟩ => ⟨S512x2048, .bf16⟩
  | .local _ .vmem, ⟨16, _⟩ => ⟨S512x2048, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev main_v30_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v47 : BitVec 1 := Scalar.cmpi .eq arg1 c1_i32
  let v48 : BitVec 32 := Scalar.extui v47
  let c0_i32_30 : BitVec 32 := 0#32
  let v49 : BitVec 1 := Scalar.cmpi .ne v48 c0_i32_30
  v49

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference2Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S2x1024 : Shape := ⟨2, ![2, 1024]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .i1⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x1024, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x4096, .bf16⟩
  | .hbm, ⟨105, _⟩ => ⟨S4096x1024, .bf16⟩
  | .hbm, ⟨106, _⟩ => ⟨S2x1024, .f32⟩
  | .hbm, ⟨107, _⟩ => ⟨S_, .i32⟩
  | .hbm, ⟨108, _⟩ => ⟨S_, .f32⟩
  | .hbm, ⟨109, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_18 : Ref sig .tc := ⟨.hbm, 97, rfl⟩
abbrev main_v70 : Ref sig .tc := ⟨.hbm, 98, rfl⟩
abbrev main_v71 : Ref sig .tc := ⟨.hbm, 99, rfl⟩
abbrev main_cst_19 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c : Ref sig .tc := ⟨.hbm, 107, rfl⟩
abbrev main_call1_v0 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S1024x4096 : Shape := ⟨2, ![1024, 4096]⟩
abbrev S8x1024x512 : Shape := ⟨3, ![8, 1024, 512]⟩
abbrev S2048x512 : Shape := ⟨2, ![2048, 512]⟩
abbrev S2048x2048 : Shape := ⟨2, ![2048, 2048]⟩
abbrev S4x512x512 : Shape := ⟨3, ![4, 512, 512]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S4096x1024, .bf16⟩
  | .hbm, ⟨4, _⟩ => ⟨S4096x4096, .bf16⟩
  | .hbm, ⟨5, _⟩ => ⟨S8x1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S4x512x512, .bf16⟩
  | .local _ .vmem, ⟨5, _⟩ => ⟨S4x512x512, .bf16⟩
  | .local _ .vmem, ⟨6, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x4096 : Shape := ⟨2, ![4096, 4096]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v18 : BitVec 1 := Scalar.cmpi .eq arg2 c1_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S4096x4352 : Shape := ⟨2, ![4096, 4352]⟩
abbrev S4096x1024 : Shape := ⟨2, ![4096, 1024]⟩
abbrev S4352x1024 : Shape := ⟨2, ![4352, 1024]⟩
abbrev S1024x2176 : Shape := ⟨2, ![1024, 2176]⟩
abbrev S1024x1024 : Shape := ⟨2, ![1024, 1024]⟩
abbrev S2176x1024 : Shape := ⟨2, ![2176, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4352, .f32⟩
  | .hbm, ⟨1, _⟩ => ⟨S4096x1024, .f32⟩
  | .hbm, ⟨2, _⟩ => ⟨S4352x1024, .f32⟩
  | .hbm, ⟨3, _⟩ => ⟨S4096x4352, .bf16⟩
  | .hbm, ⟨4, _⟩ => ⟨S4096x1024, .bf16⟩
  | .hbm, ⟨5, _⟩ => ⟨S4352x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .f32⟩
  | _, _ => ⟨S4096x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4352 : Shape := ⟨2, ![4096, 4352]⟩
abbrev S4096x1024 : Shape := ⟨2, ![4096, 1024]⟩
abbrev S4352x1024 : Shape := ⟨2, ![4352, 1024]⟩
abbrev S1024x4352 : Shape := ⟨2, ![1024, 4352]⟩

abbrev nBuf : Space → Nat
  | .hbm => 9
  | .vmem => 0
  | .smem => 0
  | _ => 0

abbrev bufTy : (tb : Table) → Fin (tcTables nBuf tb) → BufTy
  | .hbm, ⟨0, _⟩ => ⟨S4096x4352, .f32⟩
  | .hbm, ⟨1, _⟩ => ⟨S4096x1024, .f32⟩
  | .hbm, ⟨2, _⟩ => ⟨S4352x1024, .f32⟩
  | .hbm, ⟨3, _⟩ => ⟨S1024x4352, .f32⟩
  | .hbm, ⟨4, _⟩ => ⟨S4096x4352, .f32⟩
  | .hbm, ⟨5, _⟩ => ⟨S4352x1024, .f32⟩
  | .hbm, ⟨6, _⟩ => ⟨S1024x4352, .f32⟩
  | .hbm, ⟨7, _⟩ => ⟨S4352x1024, .f32⟩
  | .hbm, ⟨8, _⟩ => ⟨S4352x1024, .bf16⟩
  | _, _ => ⟨S4096x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .hbm, ⟨3, _⟩ => ⟨S4096x512, .bf16⟩
  | .hbm, ⟨4, _⟩ => ⟨S4096x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x384 : Shape := ⟨2, ![4096, 384]⟩
abbrev S4096x1024 : Shape := ⟨2, ![4096, 1024]⟩
abbrev S384x1024 : Shape := ⟨2, ![384, 1024]⟩
abbrev S2048x384 : Shape := ⟨2, ![2048, 384]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x384, .f32⟩
  | .hbm, ⟨1, _⟩ => ⟨S4096x1024, .f32⟩
  | .hbm, ⟨2, _⟩ => ⟨S384x1024, .f32⟩
  | .hbm, ⟨3, _⟩ => ⟨S4096x384, .bf16⟩
  | .hbm, ⟨4, _⟩ => ⟨S4096x1024, .bf16⟩
  | .hbm, ⟨5, _⟩ => ⟨S384x1024, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .bf16⟩
  | .local _ .vmem, ⟨5, _⟩ => ⟨S384x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x384 : Shape := ⟨2, ![4096, 384]⟩
abbrev S4096x1024 : Shape := ⟨2, ![4096, 1024]⟩
abbrev S384x1024 : Shape := ⟨2, ![384, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x1024, .f32⟩
  | .hbm, ⟨2, _⟩ => ⟨S384x1024, .f32⟩
  | .hbm, ⟨3, _⟩ => ⟨S4096x1024, .f32⟩
  | .hbm, ⟨4, _⟩ => ⟨S1024x384, .f32⟩
  | .hbm, ⟨5, _⟩ => ⟨S384x1024, .f32⟩
  | .hbm, ⟨6, _⟩ => ⟨S384x1024, .bf16⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x256 : Shape := ⟨2, ![4096, 256]⟩
abbrev S4096x512 : Shape := ⟨2, ![4096, 512]⟩
abbrev S256x512 : Shape := ⟨2, ![256, 512]⟩
abbrev S2048x256 : Shape := ⟨2, ![2048, 256]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S256x512, .f32⟩
  | .hbm, ⟨3, _⟩ => ⟨S4096x256, .bf16⟩
  | .hbm, ⟨4, _⟩ => ⟨S4096x512, .bf16⟩
  | .hbm, ⟨5, _⟩ => ⟨S256x512, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x256 : Shape := ⟨2, ![4096, 256]⟩
abbrev S4096x512 : Shape := ⟨2, ![4096, 512]⟩
abbrev S256x512 : Shape := ⟨2, ![256, 512]⟩
abbrev S512x256 : Shape := ⟨2, ![512, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S256x512, .f32⟩
  | .hbm, ⟨3, _⟩ => ⟨S4096x512, .f32⟩
  | .hbm, ⟨4, _⟩ => ⟨S512x256, .f32⟩
  | .hbm, ⟨5, _⟩ => ⟨S256x512, .f32⟩
  | .hbm, ⟨6, _⟩ => ⟨S256x512, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S4096x4096 : Shape := ⟨2, ![4096, 4096]⟩
abbrev S8x1024 : Shape := ⟨2, ![8, 1024]⟩
abbrev S512x1024 : Shape := ⟨2, ![512, 1024]⟩
abbrev S4x1024x512 : Shape := ⟨3, ![4, 1024, 512]⟩
abbrev S2048x1024 : Shape := ⟨2, ![2048, 1024]⟩
abbrev S512x2048 : Shape := ⟨2, ![512, 2048]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 21
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1024x4096, .bf16⟩
  | .hbm, ⟨14, _⟩ => ⟨S1024x8x512, .bf16⟩
  | .hbm, ⟨15, _⟩ => ⟨S8x1024x512, .bf16⟩
  | .hbm, ⟨16, _⟩ => ⟨S4096x1024, .bf16⟩
  | .hbm, ⟨17, _⟩ => ⟨S4096x4096, .bf16⟩
  | .hbm, ⟨18, _⟩ => ⟨S4096x1024, .f32⟩
  | .hbm, ⟨19, _⟩ => ⟨S4096x1024, .bf16⟩
  | .hbm, ⟨20, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x1024x512, .bf16⟩
  | .local _ .vmem, ⟨7, _⟩ => ⟨S4x1024x512, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x2048, .bf16⟩
  | .local _ .vmem, ⟨15, _⟩ => ⟨S512x2048, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x1024, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v61 : BitVec 1 := Scalar.cmpi .eq arg1 c1_i32
  let v62 : BitVec 32 := Scalar.extui v61
  let c0_i32_39 : BitVec 32 := 0#32
  let v63 : BitVec 1 := Scalar.cmpi .ne v62 c0_i32_39
  v63

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference10Ideal.lean ====
abbrev S4096x1024 : Shape := ⟨2, ![4096, 1024]⟩
abbrev S1024x4096 : Shape := ⟨2, ![1024, 4096]⟩
abbrev S1x1024 : Shape := ⟨2, ![1, 1024]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S3x1024 : Shape := ⟨2, ![3, 1024]⟩
abbrev S8x1024 : Shape := ⟨2, ![8, 1024]⟩

abbrev nBuf : Space → Nat
  | .hbm => 130
  | .vmem => 0
  | .smem => 0
  | _ => 0

abbrev hbmTy0_0 (i : Nat) : BufTy := match i % 128 with
  | 0 => ⟨S4096x1024, .f32⟩
  | 1 => ⟨S4096x1024, .f32⟩
  | 2 => ⟨S1024x4096, .f32⟩
  | 3 => ⟨S4096x1024, .f32⟩
  | 4 => ⟨S1x1024, .f32⟩
  | 5 => ⟨S1x1024, .f32⟩
  | 6 => ⟨S1x1024, .f32⟩
  | 7 => ⟨S1x1024, .f32⟩
  | 8 => ⟨S1024, .f32⟩
  | 9 => ⟨S1x1024, .f32⟩
  | 10 => ⟨S4096x1024, .f32⟩
  | 11 => ⟨S4096x1024, .f32⟩
  | 12 => ⟨S1024, .f32⟩
  | 13 => ⟨S1x1024, .f32⟩
  | 14 => ⟨S4096x1024, .f32⟩
  | 15 => ⟨S4096x1024, .f32⟩
  | 16 => ⟨S4096x4096, .f32⟩
  | 17 => ⟨S_, .f32⟩
  | 18 => ⟨S4096x1024, .f32⟩
  | 19 => ⟨S4096x1024, .f32⟩
  | 20 => ⟨S_, .f32⟩
  | 21 => ⟨S4096x4096, .f32⟩
  | 22 => ⟨S4096x4096, .f32⟩
  | 23 => ⟨S4096x4096, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096, .f32⟩
  | 67 => ⟨S_, .f32⟩
  | 68 => ⟨S4096, .f32⟩
  | 69 => ⟨S4096, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S4096, .f32⟩
  | 78 => ⟨S_, .f32⟩
  | 79 => ⟨S4096, .f32⟩
  | 80 => ⟨S4096, .f32⟩
  | 81 => ⟨S4096x1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S_, .f32⟩
  | 88 => ⟨S1024, .f32⟩
  | 89 => ⟨S1x1024, .f32⟩
  | 90 => ⟨S4096x1024, .f32⟩
  | 91 => ⟨S4096x1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1, .f32⟩
  | 99 => ⟨S4096x1024, .f32⟩
  | 100 => ⟨S_, .f32⟩
  | 101 => ⟨S4096, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S1x1024, .f32⟩
  | 124 => ⟨S3x1024, .f32⟩
  | 125 => ⟨S4096x4096, .bf16⟩
  | 126 => ⟨S4096x1024, .bf16⟩
  | 127 => ⟨S_, .i32⟩
  | _ => ⟨S4096x1024, .f32⟩

abbrev hbmTy0_1 (i : Nat) : BufTy := match i % 128 with
  | 0 => ⟨S_, .f32⟩
  | 1 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_cst_12 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_18 : Ref sig .tc := ⟨.hbm, 100, rfl⟩
abbrev main_v71 : Ref sig .tc := ⟨.hbm, 101, rfl⟩
abbrev main_v72 : Ref sig .tc := ⟨.hbm, 102, rfl⟩
abbrev main_cst_19 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_21 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_22 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c : Ref sig .tc := ⟨.hbm, 127, rfl⟩
abbrev main_call1_v0 : Ref sig .tc := ⟨.hbm, 128, rfl⟩
abbrev main_v92 : Ref sig .tc := ⟨.hbm, 129, rfl⟩

abbrev nD : Nat := 1
abbrev τ : Topo := Topo.v7x

variable {F : FTy → Type} [FloatOps F]
-- ==== Kernel11.lean ====
abbrev S4096x512 : Shape := ⟨2, ![4096, 512]⟩
abbrev S4096x2048 : Shape := ⟨2, ![4096, 2048]⟩
abbrev S4096x1024 : Shape := ⟨2, ![4096, 1024]⟩
abbrev S2x1024 : Shape := ⟨2, ![2, 1024]⟩
abbrev S512x1024 : Shape := ⟨2, ![512, 1024]⟩
abbrev S1024x1024 : Shape := ⟨2, ![1024, 1024]⟩
abbrev S1x1024 : Shape := ⟨2, ![1, 1024]⟩
abbrev S4096x128 : Shape := ⟨2, ![4096, 128]⟩
abbrev S512x512 : Shape := ⟨2, ![512, 512]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 22
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S2x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S4096x512, .bf16⟩
  | .hbm, ⟨11, _⟩ => ⟨S4096x512, .bf16⟩
  | .hbm, ⟨12, _⟩ => ⟨S4096x2048, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S4096x1024, .bf16⟩
  | .hbm, ⟨17, _⟩ => ⟨S4096x1024, .f32⟩
  | .hbm, ⟨18, _⟩ => ⟨S4096x128, .f32⟩
  | .hbm, ⟨19, _⟩ => ⟨S4096x1024, .bf16⟩
  | .hbm, ⟨20, _⟩ => ⟨S4096x1024, .bf16⟩
  | .hbm, ⟨21, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S2x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x128, .f32⟩
  | .local _ .vmem, ⟨19, _⟩ => ⟨S512x128, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference11Ideal.lean ====
abbrev S4096x512 : Shape := ⟨2, ![4096, 512]⟩
abbrev S4096x2048 : Shape := ⟨2, ![4096, 2048]⟩
abbrev S4096x1024 : Shape := ⟨2, ![4096, 1024]⟩
abbrev S2x1024 : Shape := ⟨2, ![2, 1024]⟩
abbrev S512x1024 : Shape := ⟨2, ![512, 1024]⟩
abbrev S1024x1024 : Shape := ⟨2, ![1024, 1024]⟩
abbrev S1x1024 : Shape := ⟨2, ![1, 1024]⟩
abbrev S4096x2x1024 : Shape := ⟨3, ![4096, 2, 1024]⟩
abbrev S1x2x1024 : Shape := ⟨3, ![1, 2, 1024]⟩
abbrev S_ : Shape := ⟨0, ![]⟩
abbrev S4096x1x1024 : Shape := ⟨3, ![4096, 1, 1024]⟩
abbrev S4096 : Shape := ⟨1, ![4096]⟩
abbrev S4096x1 : Shape := ⟨2, ![4096, 1]⟩
abbrev S4096x128 : Shape := ⟨2, ![4096, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S2x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x2x1024, .f32⟩
  | .hbm, ⟨13, _⟩ => ⟨S1x2x1024, .f32⟩
  | .hbm, ⟨14, _⟩ => ⟨S4096x2x1024, .f32⟩
  | .hbm, ⟨15, _⟩ => ⟨S4096x2x1024, .f32⟩
  | .hbm, ⟨16, _⟩ => ⟨S4096x2x1024, .f32⟩
  | .hbm, ⟨17, _⟩ => ⟨S4096x2x1024, .f32⟩
  | .hbm, ⟨18, _⟩ => ⟨S_, .f32⟩
  | .hbm, ⟨19, _⟩ => ⟨S4096x2x1024, .f32⟩
  | .hbm, ⟨20, _⟩ => ⟨S4096x2x1024, .f32⟩
  | .hbm, ⟨21, _⟩ => ⟨S_, .f32⟩
  | .hbm, ⟨22, _⟩ => ⟨S4096x2x1024, .f32⟩
  | .hbm, ⟨23, _⟩ => ⟨S4096x2x1024, .f32⟩
  | .hbm, ⟨24, _⟩ => ⟨S4096x1x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | .hbm, ⟨64, _⟩ => ⟨S4096x128, .f32⟩
  | .hbm, ⟨65, _⟩ => ⟨S4096x1024, .bf16⟩
  | .hbm, ⟨66, _⟩ => ⟨S4096x1024, .bf16⟩
  | .hbm, ⟨67, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Kernel12.lean ====
abbrev S4096x1024 : Shape := ⟨2, ![4096, 1024]⟩
abbrev S1024x4256 : Shape := ⟨2, ![1024, 4256]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1024x672 : Shape := ⟨2, ![1024, 672]⟩
abbrev S1024x32 : Shape := ⟨2, ![1024, 32]⟩
abbrev S1024x16 : Shape := ⟨2, ![1024, 16]⟩
abbrev S_ : Shape := ⟨0, ![]⟩
abbrev S1024x64 : Shape := ⟨2, ![1024, 64]⟩
abbrev S1024x3584 : Shape := ⟨2, ![1024, 3584]⟩
abbrev S1024x4352 : Shape := ⟨2, ![1024, 4352]⟩
abbrev S384x8x96 : Shape := ⟨3, ![384, 8, 96]⟩
abbrev S384x8x64 : Shape := ⟨3, ![384, 8, 64]⟩
abbrev S384x8x32 : Shape := ⟨3, ![384, 8, 32]⟩
abbrev S384x4x128 : Shape := ⟨3, ![384, 4, 128]⟩
abbrev S384x4x64 : Shape := ⟨3, ![384, 4, 64]⟩
abbrev S384x4x256 : Shape := ⟨3, ![384, 4, 256]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x128 : Shape := ⟨2, ![2048, 128]⟩
abbrev S2048x64 : Shape := ⟨2, ![2048, 64]⟩
abbrev S2048x256 : Shape := ⟨2, ![2048, 256]⟩
abbrev S4096x768 : Shape := ⟨2, ![4096, 768]⟩
abbrev S4096x2048 : Shape := ⟨2, ![4096, 2048]⟩
abbrev S4096x1536 : Shape := ⟨2, ![4096, 1536]⟩
abbrev S4096x512 : Shape := ⟨2, ![4096, 512]⟩
abbrev S4096x384 : Shape := ⟨2, ![4096, 384]⟩
abbrev S4096x256 : Shape := ⟨2, ![4096, 256]⟩
abbrev S512x1024 : Shape := ⟨2, ![512, 1024]⟩
abbrev S512x128 : Shape := ⟨2, ![512, 128]⟩
abbrev S512x768 : Shape := ⟨2, ![512, 768]⟩
abbrev S512x2048 : Shape := ⟨2, ![512, 2048]⟩
abbrev S512x1536 : Shape := ⟨2, ![512, 1536]⟩
abbrev S512x512 : Shape := ⟨2, ![512, 512]⟩
abbrev S512x384 : Shape := ⟨2, ![512, 384]⟩
abbrev S512x256 : Shape := ⟨2, ![512, 256]⟩
abbrev S1024x768 : Shape := ⟨2, ![1024, 768]⟩
abbrev S1024x1536 : Shape := ⟨2, ![1024, 1536]⟩
abbrev S1024x2048 : Shape := ⟨2, ![1024, 2048]⟩
abbrev S512 : Shape := ⟨1, ![512]⟩
abbrev S512x1 : Shape := ⟨2, ![512, 1]⟩
abbrev S1x128 : Shape := ⟨2, ![1, 128]⟩

abbrev nBuf : Space → Nat
  | .hbm => 71
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S1024x4256, .f32⟩
  | .hbm, ⟨2, _⟩ => ⟨S1x384, .f32⟩
  | .hbm, ⟨3, _⟩ => ⟨S384x768, .f32⟩
  | .hbm, ⟨4, _⟩ => ⟨S1x256, .f32⟩
  | .hbm, ⟨5, _⟩ => ⟨S256x1024, .f32⟩
  | .hbm, ⟨6, _⟩ => ⟨S1024x4256, .bf16⟩
  | .hbm, ⟨7, _⟩ => ⟨S1024x672, .bf16⟩
  | .hbm, ⟨8, _⟩ => ⟨S1024x32, .bf16⟩
  | .hbm, ⟨9, _⟩ => ⟨S1024x16, .bf16⟩
  | .hbm, ⟨10, _⟩ => ⟨S1024x16, .bf16⟩
  | .hbm, ⟨11, _⟩ => ⟨S1024x16, .bf16⟩
  | .hbm, ⟨12, _⟩ => ⟨S1024x32, .bf16⟩
  | .hbm, ⟨13, _⟩ => ⟨S_, .bf16⟩
  | .hbm, ⟨14, _⟩ => ⟨S1024x64, .bf16⟩
  | .hbm, ⟨15, _⟩ => ⟨S1024x3584, .bf16⟩
  | .hbm, ⟨16, _⟩ => ⟨S1024x4352, .bf16⟩
  | .hbm, ⟨17, _⟩ => ⟨S384x768, .bf16⟩
  | .hbm, ⟨18, _⟩ => ⟨S384x8x96, .bf16⟩
  | .hbm, ⟨19, _⟩ => ⟨S384x8x64, .bf16⟩
  | .hbm, ⟨20, _⟩ => ⟨S384x8x32, .bf16⟩
  | .hbm, ⟨21, _⟩ => ⟨S384x4x128, .bf16⟩
  | .hbm, ⟨22, _⟩ => ⟨S384x4x64, .bf16⟩
  | .hbm, ⟨23, _⟩ => ⟨S_, .bf16⟩
  | .hbm, ⟨24, _⟩ => ⟨S384x4x64, .bf16⟩
  | .hbm, ⟨25, _⟩ => ⟨S384x4x256, .bf16⟩
  | .hbm, ⟨26, _⟩ => ⟨S384x1024, .bf16⟩
  | .hbm, ⟨27, _⟩ => ⟨S256x1024, .bf16⟩
  | .hbm, ⟨28, _⟩ => ⟨S256x8x128, .bf16⟩
  | .hbm, ⟨29, _⟩ => ⟨S256x8x64, .bf16⟩
  | .hbm, ⟨30, _⟩ => ⟨S256x512, .bf16⟩
  | .hbm, ⟨31, _⟩ => ⟨S256x8x64, .bf16⟩
  | .hbm, ⟨32, _⟩ => ⟨S256x512, .bf16⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S2048, .f32⟩
  | .hbm, ⟨42, _⟩ => ⟨S2048x1, .f32⟩
  | .hbm, ⟨43, _⟩ => ⟨S1x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x16, .f32⟩
  | .hbm, ⟨48, _⟩ => ⟨S2048x32, .f32⟩
  | .hbm, ⟨49, _⟩ => ⟨S2048x16, .f32⟩
  | .hbm, ⟨50, _⟩ => ⟨S2048x32, .f32⟩
  | .hbm, ⟨51, _⟩ => ⟨S_, .f32⟩
  | .hbm, ⟨52, _⟩ => ⟨S2048x128, .f32⟩
  | .hbm, ⟨53, _⟩ => ⟨S_, .f32⟩
  | .hbm, ⟨54, _⟩ => ⟨S2048x128, .f32⟩
  | .hbm, ⟨55, _⟩ => ⟨S_, .f32⟩
  | .hbm, ⟨56, _⟩ => ⟨S2048x64, .f32⟩
  | .hbm, ⟨57, _⟩ => ⟨S2048x256, .f32⟩
  | .hbm, ⟨58, _⟩ => ⟨S2048x256, .f32⟩
  | .hbm, ⟨59, _⟩ => ⟨S_, .f32⟩
  | .hbm, ⟨60, _⟩ => ⟨S2048x64, .f32⟩
  | .hbm, ⟨61, _⟩ => ⟨S2048x128, .f32⟩
  | .hbm, ⟨62, _⟩ => ⟨S4096x768, .f32⟩
  | .hbm, ⟨63, _⟩ => ⟨S4096x2048, .bf16⟩
  | .hbm, ⟨64, _⟩ => ⟨S4096x1536, .bf16⟩
  | .hbm, ⟨65, _⟩ => ⟨S4096x1024, .bf16⟩
  | .hbm, ⟨66, _⟩ => ⟨S4096x1024, .bf16⟩
  | .hbm, ⟨67, _⟩ => ⟨S4096x512, .bf16⟩
  | .hbm, ⟨68, _⟩ => ⟨S4096x384, .bf16⟩
  | .hbm, ⟨69, _⟩ => ⟨S4096x256, .bf16⟩
  | .hbm, ⟨70, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x4352, .bf16⟩
  | .local _ .vmem, ⟨3, _⟩ => ⟨S384x1024, .bf16⟩
  | .local _ .vmem, ⟨4, _⟩ => ⟨S256x512, .bf16⟩
  | .local _ .vmem, ⟨5, _⟩ => ⟨S256x512, .bf16⟩
  | .local _ .vmem, ⟨6, _⟩ => ⟨S1x384, .f32⟩
  | .local _ .vmem, ⟨7, _⟩ => ⟨S1x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x768, .f32⟩
  | .local _ .vmem, ⟨15, _⟩ => ⟨S512x768, .f32⟩
  | .local _ .vmem, ⟨16, _⟩ => ⟨S512x2048, .bf16⟩
  | .local _ .vmem, ⟨17, _⟩ => ⟨S512x2048, .bf16⟩
  | .local _ .vmem, ⟨18, _⟩ => ⟨S512x1536, .bf16⟩
  | .local _ .vmem, ⟨19, _⟩ => ⟨S512x1536, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S512x384, .bf16⟩
  | .local _ .vmem, ⟨27, _⟩ => ⟨S512x384, .bf16⟩
  | .local _ .vmem, ⟨28, _⟩ => ⟨S512x256, .bf16⟩
  | .local _ .vmem, ⟨29, _⟩ => ⟨S512x256, .bf16⟩
  | .local _ .vmem, ⟨30, _⟩ => ⟨S512x1024, .bf16⟩
  | .local _ .vmem, ⟨31, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48_0 : Ref sig .tc := ⟨.hbm, 62, rfl⟩
abbrev main_v48_1 : Ref sig .tc := ⟨.hbm, 63, rfl⟩
abbrev main_v48_2 : Ref sig .tc := ⟨.hbm, 64, rfl⟩
abbrev main_v48_3 : Ref sig .tc := ⟨.hbm, 65, rfl⟩
abbrev main_v48_4 : Ref sig .tc := ⟨.hbm, 66, rfl⟩
abbrev main_v48_5 : Ref sig .tc := ⟨.hbm, 67, rfl⟩
abbrev main_v48_6 : Ref sig .tc := ⟨.hbm, 68, rfl⟩
abbrev main_v48_7 : Ref sig .tc := ⟨.hbm, 69, rfl⟩
abbrev main_v48_8 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let c0_i32_4 : BitVec 32 := 0#32
  ![v9.toNat, c1_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let c0_i32_4 : BitVec 32 := 0#32
  ![v9.toNat, c1_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference12Ideal.lean ====
abbrev S4096x1024 : Shape := ⟨2, ![4096, 1024]⟩
abbrev S1024x4256 : Shape := ⟨2, ![1024, 4256]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S4096x4256 : Shape := ⟨2, ![4096, 4256]⟩
abbrev S4096x384 : Shape := ⟨2, ![4096, 384]⟩
abbrev S4096x256 : Shape := ⟨2, ![4096, 256]⟩
abbrev S4096x32 : Shape := ⟨2, ![4096, 32]⟩
abbrev S4096x1536 : Shape := ⟨2, ![4096, 1536]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S4096x8x128 : Shape := ⟨3, ![4096, 8, 128]⟩
abbrev S4096x8x64 : Shape := ⟨3, ![4096, 8, 64]⟩
abbrev S4096x512 : Shape := ⟨2, ![4096, 512]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4256, .f32⟩
  | .hbm, ⟨2, _⟩ => ⟨S1x384, .f32⟩
  | .hbm, ⟨3, _⟩ => ⟨S384x768, .f32⟩
  | .hbm, ⟨4, _⟩ => ⟨S1x256, .f32⟩
  | .hbm, ⟨5, _⟩ => ⟨S256x1024, .f32⟩
  | .hbm, ⟨6, _⟩ => ⟨S4096x4256, .f32⟩
  | .hbm, ⟨7, _⟩ => ⟨S4096x384, .f32⟩
  | .hbm, ⟨8, _⟩ => ⟨S4096x256, .f32⟩
  | .hbm, ⟨9, _⟩ => ⟨S4096x32, .f32⟩
  | .hbm, ⟨10, _⟩ => ⟨S4096x1536, .f32⟩
  | .hbm, ⟨11, _⟩ => ⟨S4096x2048, .f32⟩
  | .hbm, ⟨12, _⟩ => ⟨S4096x384, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x384, .f32⟩
  | .hbm, ⟨24, _⟩ => ⟨S4096x384, .f32⟩
  | .hbm, ⟨25, _⟩ => ⟨S4096x384, .f32⟩
  | .hbm, ⟨26, _⟩ => ⟨S4096x384, .f32⟩
  | .hbm, ⟨27, _⟩ => ⟨S4096x256, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x1024, .f32⟩
  | .hbm, ⟨43, _⟩ => ⟨S4096x8x128, .f32⟩
  | .hbm, ⟨44, _⟩ => ⟨S4096x8x64, .f32⟩
  | .hbm, ⟨45, _⟩ => ⟨S4096x512, .f32⟩
  | .hbm, ⟨46, _⟩ => ⟨S4096x2048, .bf16⟩
  | .hbm, ⟨47, _⟩ => ⟨S4096x1536, .bf16⟩
  | .hbm, ⟨48, _⟩ => ⟨S4096x512, .bf16⟩
  | .hbm, ⟨49, _⟩ => ⟨S4096x384, .bf16⟩
  | .hbm, ⟨50, _⟩ => ⟨S4096x256, .bf16⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.Mix.Spec.lean ====
/- The gradient of the gated merge, written as plain sums over extended reals.

   Two branch outputs `y₀`, `y₁` are merged by sigmoid gates and projected by `w_out`.  Of a cotangent `ct` of the
   merge's result, `dMix` is the cotangent of the merged activations, `dGate` that of the gates' logits, `dY` that of a
   branch output, `dO` that of a branch's input, and `dBias` that of the gates' bias. -/
module

public import Idealize.ShloMosaic.Lib.Pointwise
public import Idealize.ShloMosaic.PureOps.Ideal

@[expose] public section

noncomputable section

open Idealize.ShloMosaic

namespace Cert.Mix

/-- A matrix of extended reals. -/
abbrev Mat (n k : ℕ) : Type := (⟨2, ![n, k]⟩ : Shape).Idx → EReal

/-- The two gates lie side by side in one array of `2 · 1024` columns: the column of gate `k` at `c`. -/
def col (k : Fin 2) (c : Fin 1024) : Fin 2048 := ⟨k.val * 1024 + c.val, by omega⟩

/-- Gate `k` at row `r` and column `c`: the sigmoid of the logit with its bias. -/
def gate (gates : Mat 4096 2048) (bias : Mat 2 1024) (k : Fin 2) (r : Fin 4096) (c : Fin 1024) : EReal :=
  Ideal.div 1 (1 + Ideal.exp (-(gates (ix2 r (col k c)) + bias (ix2 k c))))

/-- A branch's output: its input times its projection. -/
def branch (o : Mat 4096 512) (w : Mat 512 1024) (r : Fin 4096) (c : Fin 1024) : EReal :=
  ∑ n : Fin 512, o (ix2 r n) * w (ix2 n c)

/-- The cotangent of the merged activations: `ct · w_outᵀ`. -/
def dMix (ct : Mat 4096 1024) (wOut : Mat 1024 1024) (r : Fin 4096) (c : Fin 1024) : EReal :=
  ∑ n : Fin 1024, ct (ix2 r n) * wOut (ix2 c n)

/-- The cotangent of gate `k`'s logit, for the branch output `y`. -/
def dGate (ct : Mat 4096 1024) (gates : Mat 4096 2048) (bias : Mat 2 1024) (wOut : Mat 1024 1024)
    (o : Mat 4096 512) (w : Mat 512 1024) (k : Fin 2) (r : Fin 4096) (c : Fin 1024) : EReal :=
  dMix ct wOut r c * branch o w r c * (gate gates bias k r c * (1 - gate gates bias k r c))

/-- The cotangent of branch `k`'s output. -/
def dY (ct : Mat 4096 1024) (gates : Mat 4096 2048) (bias : Mat 2 1024) (wOut : Mat 1024 1024)
    (k : Fin 2) (r : Fin 4096) (c : Fin 1024) : EReal :=
  dMix ct wOut r c * gate gates bias k r c

/-- The cotangent of branch `k`'s input: `dY · wᵀ`. -/
def dO (ct : Mat 4096 1024) (gates : Mat 4096 2048) (bias : Mat 2 1024) (wOut : Mat 1024 1024)
    (w : Mat 512 1024) (k : Fin 2) (r : Fin 4096) (n : Fin 512) : EReal :=
  ∑ c : Fin 1024, dY ct gates bias wOut k r c * w (ix2 n c)

/-- The array of both gates' cotangents. -/
def dGates (ct : Mat 4096 1024) (gates : Mat 4096 2048) (bias : Mat 2 1024) (wOut : Mat 1024 1024)
    (oA oB : Mat 4096 512) (wA wB : Mat 512 1024) : Mat 4096 2048 := fun j =>
  if h : (j 1).val < 1024 then dGate ct gates bias wOut oA wA 0 (j 0) ⟨(j 1).val, h⟩
  else dGate ct gates bias wOut oB wB 1 (j 0) ⟨(j 1).val - 1024, by have : (j 1).val < 2048 := (j 1).isLt; omega⟩

/-- The left half holds the first gate's cotangent, -/
theorem dGates_left (ct : Mat 4096 1024) (gates : Mat 4096 2048) (bias : Mat 2 1024) (wOut : Mat 1024 1024)
    (oA oB : Mat 4096 512) (wA wB : Mat 512 1024) (r : Fin 4096) (k : Fin 2048) (hk : k.val < 1024) :
    dGates ct gates bias wOut oA oB wA wB (ix2 r k) = dGate ct gates bias wOut oA wA 0 r ⟨k.val, hk⟩ := dif_pos hk

/-- and the right half the second gate's. -/
theorem dGates_right (ct : Mat 4096 1024) (gates : Mat 4096 2048) (bias : Mat 2 1024) (wOut : Mat 1024 1024)
    (oA oB : Mat 4096 512) (wA wB : Mat 512 1024) (r : Fin 4096) (k : Fin 2048) (hk : ¬ k.val < 1024) :
    dGates ct gates bias wOut oA oB wA wB (ix2 r k) = dGate ct gates bias wOut oB wB 1 r ⟨k.val - 1024, by omega⟩ :=
  dif_neg hk

/-- The gates' bias cotangent in the first two of eight rows; the other rows are zero. -/
def dBias (ct : Mat 4096 1024) (gates : Mat 4096 2048) (bias : Mat 2 1024) (wOut : Mat 1024 1024)
    (oA oB : Mat 4096 512) (wA wB : Mat 512 1024) : Mat 8 1024 := fun j =>
  if (j 0).val = 0 then ∑ r : Fin 4096, dGate ct gates bias wOut oA wA 0 r (j 1)
  else if (j 0).val = 1 then ∑ r : Fin 4096, dGate ct gates bias wOut oB wB 1 r (j 1)
  else 0

end Cert.Mix

end
-- ==== Proof.Mix.Blocks.lean ====
/- What the kernel reads at each grid point, and what it makes of a tile: the entries of each result. -/
module

public import proofs.«01_k».proof.Proof.Mix.Spec
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mix.Kernel
open Cert.KernelIdeal Cert.KernelIdeal.Gen
variable (m : (ℓ : Loc nD τ sig) → Buf (Elt Ideal) ℓ)

/-- Row `r` of the token tile at point `t`. -/
def row (t : Fin cfg0.N) (r : Fin 512) : Fin 4096 := ⟨t.val * 512 + r.val, by
  have : t.val < 8 := lt_of_lt_of_eq t.isLt (by decide +kernel); omega⟩

/-- Every window's block at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] ∧ t.val < 8 :=
  (by decide +kernel : ∀ t : Fin grid0.N, _)

theorem read0 (c : Dev nD) (t : Fin cfg0.N) (r : Fin 512) (k : Fin 1024) : iblk m c 0 t (ix2 r k) = m ((c : Thread nD τ).loc main_arg0) (ix2 (row t r) k) := by
  blk_ext! [iblk, V, idx t, row]

theorem read1 (c : Dev nD) (t : Fin cfg0.N) (r : Fin 512) (k : Fin 2048) : iblk m c 1 t (ix2 r k) = m ((c : Thread nD τ).loc main_arg1) (ix2 (row t r) k) := by
  blk_ext! [iblk, V, idx t, row]

theorem read2 (c : Dev nD) (t : Fin cfg0.N) (r : Fin 512) (k : Fin 1024) : iblk m c 2 t (ix2 r k)
    = branch (m ((c : Thread nD τ).loc main_arg2)) (m ((c : Thread nD τ).loc main_arg5)) (row t r) k := by
  blk_simp [iblk, V]
  entry_read
  pointwise [branch, row]
  blk_point [iblk, V, idx t, row]

theorem read3 (c : Dev nD) (t : Fin cfg0.N) (r : Fin 512) (k : Fin 1024) : iblk m c 3 t (ix2 r k)
    = branch (m ((c : Thread nD τ).loc main_arg3)) (m ((c : Thread nD τ).loc main_arg6)) (row t r) k := by
  blk_simp [iblk, V]
  entry_read
  pointwise [branch, row]
  blk_point [iblk, V, idx t, row]

theorem read4 (c : Dev nD) (t : Fin cfg0.N) (r : Fin 2) (k : Fin 1024) : iblk m c 4 t (ix2 r k) = m ((c : Thread nD τ).loc main_arg4) (ix2 r k) := by
  blk_ext! [iblk, V, idx t, row]

theorem read5 (c : Dev nD) (t : Fin cfg0.N) (r : Fin 512) (k : Fin 1024) : iblk m c 5 t (ix2 r k) = m ((c : Thread nD τ).loc main_arg5) (ix2 r k) := by
  blk_ext! [iblk, V, idx t, row]

theorem read6 (c : Dev nD) (t : Fin cfg0.N) (r : Fin 512) (k : Fin 1024) : iblk m c 6 t (ix2 r k) = m ((c : Thread nD τ).loc main_arg6) (ix2 r k) := by
  blk_ext! [iblk, V, idx t, row]

theorem read7 (c : Dev nD) (t : Fin cfg0.N) (r : Fin 1024) (k : Fin 1024) : iblk m c 7 t (ix2 r k) = m ((c : Thread nD τ).loc main_arg7) (ix2 r k) := by
  blk_ext! [iblk, V, idx t, row]

/-- The first gate's cotangent on a token tile. -/
theorem part0 (c : Dev nD) (t : Fin cfg0.N) (hb hb') (r : Fin 512) (k : Fin 1024) :
    k0_pay7 (F := Ideal) (iblk m c 0 t) (iblk m c 7 t) (View.ld (iblk m c 1 t) (Rect.unit ![0, 0] ![512, 1024] hb))
      (View.ld (iblk m c 4 t) (Rect.unit ![0, 0] ![1, 1024] hb')) (iblk m c 2 t) (ix2 r k)
      = dGate (m ((c : Thread nD τ).loc main_arg0)) (m ((c : Thread nD τ).loc main_arg1)) (m ((c : Thread nD τ).loc main_arg4))
        (m ((c : Thread nD τ).loc main_arg7)) (m ((c : Thread nD τ).loc main_arg2)) (m ((c : Thread nD τ).loc main_arg5)) 0 (row t r) k := by
  pointwise [k0_pay7, k0_pay5, k0_pay6, dGate, dMix, gate, col, zero_sub, mul_assoc]
  simp only [read0, read1, read2, read3, read4, read7]

/-- The second gate's cotangent on a token tile. -/
theorem part1 (c : Dev nD) (t : Fin cfg0.N) (hb hb') (r : Fin 512) (k : Fin 1024) :
    k0_pay15 (F := Ideal) (k0_pay5 (iblk m c 0 t) (iblk m c 7 t)) (View.ld (iblk m c 1 t) (Rect.unit ![0, 1024] ![512, 1024] hb))
      (View.ld (iblk m c 4 t) (Rect.unit ![1, 0] ![1, 1024] hb')) (iblk m c 3 t) (ix2 r k)
      = dGate (m ((c : Thread nD τ).loc main_arg0)) (m ((c : Thread nD τ).loc main_arg1)) (m ((c : Thread nD τ).loc main_arg4))
        (m ((c : Thread nD τ).loc main_arg7)) (m ((c : Thread nD τ).loc main_arg3)) (m ((c : Thread nD τ).loc main_arg6)) 1 (row t r) k := by
  pointwise [k0_pay15, k0_pay14, k0_pay5, k0_pay6, dGate, dMix, gate, col, zero_sub, mul_assoc]
  simp only [read0, read1, read2, read3, read4, read7]

/-- The first branch output's cotangent on a token tile. -/
theorem dy0_at (c : Dev nD) (t : Fin cfg0.N) (hb hb') (r : Fin 512) (k : Fin 1024) :
    k0_pay12 (F := Ideal) (k0_pay5 (iblk m c 0 t) (iblk m c 7 t)) (k0_pay6 (View.ld (iblk m c 1 t) (Rect.unit ![0, 0] ![512, 1024] hb)) (View.ld (iblk m c 4 t) (Rect.unit ![0, 0] ![1, 1024] hb'))) (ix2 r k)
      = dY (m ((c : Thread nD τ).loc main_arg0)) (m ((c : Thread nD τ).loc main_arg1)) (m ((c : Thread nD τ).loc main_arg4))
        (m ((c : Thread nD τ).loc main_arg7)) 0 (row t r) k := by
  pointwise [k0_pay12, k0_pay5, k0_pay6, dY, dMix, gate, col, zero_sub]
  simp only [read0, read1, read4, read5, read6, read7]

/-- The second branch output's cotangent on a token tile. -/
theorem dy1_at (c : Dev nD) (t : Fin cfg0.N) (hb hb') (r : Fin 512) (k : Fin 1024) :
    k0_pay2 (F := Ideal) (k0_pay5 (iblk m c 0 t) (iblk m c 7 t)) (k0_pay14 (View.ld (iblk m c 1 t) (Rect.unit ![0, 1024] ![512, 1024] hb)) (View.ld (iblk m c 4 t) (Rect.unit ![1, 0] ![1, 1024] hb'))) (ix2 r k)
      = dY (m ((c : Thread nD τ).loc main_arg0)) (m ((c : Thread nD τ).loc main_arg1)) (m ((c : Thread nD τ).loc main_arg4))
        (m ((c : Thread nD τ).loc main_arg7)) 1 (row t r) k := by
  pointwise [k0_pay2, k0_pay5, k0_pay14, dY, dMix, gate, col, zero_sub]
  simp only [read0, read1, read4, read5, read6, read7]

/-- The first branch input's cotangent on a token tile. -/
theorem do0_at (c : Dev nD) (t : Fin cfg0.N) (hb hb') (r : Fin 512) (k : Fin 512) :
    k0_pay13 (F := Ideal) (k0_pay5 (iblk m c 0 t) (iblk m c 7 t)) (k0_pay6 (View.ld (iblk m c 1 t) (Rect.unit ![0, 0] ![512, 1024] hb)) (View.ld (iblk m c 4 t) (Rect.unit ![0, 0] ![1, 1024] hb'))) (iblk m c 5 t) (ix2 r k)
      = dO (m ((c : Thread nD τ).loc main_arg0)) (m ((c : Thread nD τ).loc main_arg1)) (m ((c : Thread nD τ).loc main_arg4))
        (m ((c : Thread nD τ).loc main_arg7)) (m ((c : Thread nD τ).loc main_arg5)) 0 (row t r) k := by
  pointwise [k0_pay13, k0_pay12, k0_pay5, k0_pay6, dO, dY, dMix, gate, col, zero_sub]
  simp only [read0, read1, read4, read5, read6, read7]

/-- The second branch input's cotangent on a token tile. -/
theorem do1_at (c : Dev nD) (t : Fin cfg0.N) (hb hb') (r : Fin 512) (k : Fin 512) :
    k0_pay3 (F := Ideal) (k0_pay5 (iblk m c 0 t) (iblk m c 7 t)) (k0_pay14 (View.ld (iblk m c 1 t) (Rect.unit ![0, 1024] ![512, 1024] hb)) (View.ld (iblk m c 4 t) (Rect.unit ![1, 0] ![1, 1024] hb'))) (iblk m c 6 t) (ix2 r k)
      = dO (m ((c : Thread nD τ).loc main_arg0)) (m ((c : Thread nD τ).loc main_arg1)) (m ((c : Thread nD τ).loc main_arg4))
        (m ((c : Thread nD τ).loc main_arg7)) (m ((c : Thread nD τ).loc main_arg6)) 1 (row t r) k := by
  pointwise [k0_pay3, k0_pay2, k0_pay5, k0_pay14, dO, dY, dMix, gate, col, zero_sub]
  simp only [read0, read1, read4, read5, read6, read7]

end Cert.Mix.Kernel
end
-- ==== Proof.Common.Rows.lean ====
/- Reading single rows of a matrix that was stored row by row. -/
module

public import Idealize.ShloMosaic.Lib.Pipeline.ValueKit
public import Idealize.ShloMosaic.Lib.WritesUnit

@[expose] public section

namespace Cert.Rows

open Idealize.ShloMosaic

/-- An index of a matrix is its row and its column. -/
theorem exists_ix2 {n k : ℕ} (y : (⟨2, ![n, k]⟩ : Shape).Idx) : ∃ r c, y = ix2 r c := ⟨y 0, y 1, eq_ix2 y⟩

/-- An index of a three-axis array is its three coordinates. -/
theorem exists_ix3 {m n k : ℕ} (y : (⟨3, ![m, n, k]⟩ : Shape).Idx) : ∃ a b c, y = ix3 a b c := ⟨y 0, y 1, y 2, (ix3_eta y).symm⟩

variable {Val : EltTy → Type} {e : EltTy} {n k : ℕ}

/-- After a store to one whole row, that row reads the stored values. -/
theorem canon_row [∀ e, Nonempty (Val e)] {o : ℕ} (hb : ∀ a : Fin 2, (![o, 0] : Fin 2 → ℕ) a + (![1, k] : Fin 2 → ℕ) a ≤ (⟨2, ![n, k]⟩ : Shape).size a)
    (w : (Rect.unit (s := ⟨2, ![n, k]⟩) ![o, 0] ![1, k] hb).shape.Idx → Val e)
    (L : List (View.Piece Val (⟨2, ![n, k]⟩ : Shape) e)) (r : Fin n) (c : Fin k) (h : r.val = o) :
    View.canon (⟨Rect.unit (s := ⟨2, ![n, k]⟩) ![o, 0] ![1, k] hb, w⟩ :: L) (ix2 r c) = w (ix2 (n0 := 1) 0 c) := by
  have hy : (Rect.unit (s := ⟨2, ![n, k]⟩) ![o, 0] ![1, k] hb).emb (ix2 (n0 := 1) 0 c) = ix2 r c := by
    funext a; apply Fin.ext
    refine Fin.cases ?_ (fun b => ?_) a
    · show o + 1 * 0 = r.val; omega
    · obtain rfl : b = 0 := Subsingleton.elim _ _
      show 0 + 1 * c.val = c.val; omega
  rw [← hy]; exact View.canon_cons_emb _ w L _

/-- A store to one whole row leaves the other rows as they were. -/
theorem canon_other [∀ e, Nonempty (Val e)] {o : ℕ} (hb : ∀ a : Fin 2, (![o, 0] : Fin 2 → ℕ) a + (![1, k] : Fin 2 → ℕ) a ≤ (⟨2, ![n, k]⟩ : Shape).size a)
    (w : (Rect.unit (s := ⟨2, ![n, k]⟩) ![o, 0] ![1, k] hb).shape.Idx → Val e)
    (L : List (View.Piece Val (⟨2, ![n, k]⟩ : Shape) e)) (r : Fin n) (c : Fin k) (h : r.val ≠ o) :
    View.canon (⟨Rect.unit (s := ⟨2, ![n, k]⟩) ![o, 0] ![1, k] hb, w⟩ :: L) (ix2 r c) = View.canon L (ix2 r c) := by
  refine View.canon_cons_of_not_mem _ L ?_
  rw [Rect.mem_set_unit]
  intro hall
  have := hall 0
  have h1 : o ≤ r.val ∧ r.val < o + 1 := this
  omega

/-- The same two facts for a buffer read through a view: the stored row, -/
theorem read_row {sig : RefSig} {κ : Kind} {sp : Space} (v : View sig κ sp (⟨2, ![n, k]⟩ : Shape) e) (f : v.ty.Contents Val) {o : ℕ}
    (hb : ∀ a : Fin 2, (![o, 0] : Fin 2 → ℕ) a + (![1, k] : Fin 2 → ℕ) a ≤ (⟨2, ![n, k]⟩ : Shape).size a)
    (w : (Rect.unit (s := ⟨2, ![n, k]⟩) ![o, 0] ![1, k] hb).shape.Idx → Val e)
    (L : List (View.Piece Val (⟨2, ![n, k]⟩ : Shape) e)) (r : Fin n) (c : Fin k) (h : r.val = o) :
    v.read Val (v.writes Val f (⟨Rect.unit (s := ⟨2, ![n, k]⟩) ![o, 0] ![1, k] hb, w⟩ :: L)) (ix2 r c) = w (ix2 (n0 := 1) 0 c) :=
  View.read_writes_cons_rows_of_mem v f (o := o) hb w L (ix2 r c) (ix2 (n0 := 1) 0 c) rfl h rfl

/-- and the other rows. -/
theorem read_other {sig : RefSig} {κ : Kind} {sp : Space} (v : View sig κ sp (⟨2, ![n, k]⟩ : Shape) e) (f : v.ty.Contents Val) {o : ℕ}
    (hb : ∀ a : Fin 2, (![o, 0] : Fin 2 → ℕ) a + (![1, k] : Fin 2 → ℕ) a ≤ (⟨2, ![n, k]⟩ : Shape).size a)
    (w : (Rect.unit (s := ⟨2, ![n, k]⟩) ![o, 0] ![1, k] hb).shape.Idx → Val e)
    (L : List (View.Piece Val (⟨2, ![n, k]⟩ : Shape) e)) (r : Fin n) (c : Fin k) (h : r.val ≠ o) :
    v.read Val (v.writes Val f (⟨Rect.unit (s := ⟨2, ![n, k]⟩) ![o, 0] ![1, k] hb, w⟩ :: L)) (ix2 r c)
      = v.read Val (v.writes Val f L) (ix2 r c) :=
  View.read_writes_cons_rows_of_not_mem v f (o := o) (W := 1) hb w L (ix2 r c) rfl rfl (by
    show r.val < o ∨ o + 1 ≤ r.val; omega)

end Cert.Rows
-- ==== Proof.Mix.Kernel.lean ====
/- The arrays the kernel of the merge's gradient writes, each tile by tile. -/
module

public import proofs.«01_k».proof.Proof.Mix.Blocks
public import Idealize.ShloMosaic.Lib.Pipeline.ValueKit
public import Idealize.ShloMosaic.Lib.Claim
public import Idealize.ShloMosaic.Lib.Pipeline.ReadBack
public import proofs.«01_k».proof.Proof.Common.Rows

@[expose] public section

set_option maxRecDepth 16384

noncomputable section

open Idealize.ShloMosaic Idealize.ShloMosaic.TcCoe Idealize.SL.Sem
open Idealize.ShloMosaic.Pipeline (Dat)

namespace Cert.Mix.Kernel
open Cert.Rows Cert.KernelIdeal Cert.KernelIdeal.Gen
variable (m : (ℓ : Loc nD τ sig) → Buf (Elt Ideal) ℓ)

/-- The first branch output's cotangent. -/
theorem final9 (c : Dev nD) : (dats m 0 c).arrAt 9 (cfgs 0).N = fun j : (⟨2, ![4096, 1024]⟩ : Shape).Idx =>
      dY (m ((c : Thread nD τ).loc main_arg0)) (m ((c : Thread nD τ).loc main_arg1)) (m ((c : Thread nD τ).loc main_arg4))
        (m ((c : Thread nD τ).loc main_arg7)) 0 (j 0) (j 1) := by
  refine (dats m 0 c).arrAt_eq_of_covers 9 _ (by decide +kernel) fun t _ y => ?_
  obtain ⟨r, k, rfl⟩ := exists_ix2 (n := 512) (k := 1024) y
  have e : (win0_9.blk t).view.emb (ix2 r k) = ix2 (row t r) k := by blk_ext [idx t, row]
  blk_simp
  rw [e, after0_9]
  by_cases h : t.val % 8 = 0
  all_goals first | rw [outsAt0_A m c t h] | rw [outsAt0_B m c t h]
  all_goals
    dsimp only; frame_out
    exact dy0_at m c t _ _ r k

/-- The second branch output's cotangent. -/
theorem final10 (c : Dev nD) : (dats m 0 c).arrAt 10 (cfgs 0).N = fun j : (⟨2, ![4096, 1024]⟩ : Shape).Idx =>
      dY (m ((c : Thread nD τ).loc main_arg0)) (m ((c : Thread nD τ).loc main_arg1)) (m ((c : Thread nD τ).loc main_arg4))
        (m ((c : Thread nD τ).loc main_arg7)) 1 (j 0) (j 1) := by
  refine (dats m 0 c).arrAt_eq_of_covers 10 _ (by decide +kernel) fun t _ y => ?_
  obtain ⟨r, k, rfl⟩ := exists_ix2 (n := 512) (k := 1024) y
  have e : (win0_10.blk t).view.emb (ix2 r k) = ix2 (row t r) k := by blk_ext [idx t, row]
  blk_simp
  rw [e, after0_10]
  by_cases h : t.val % 8 = 0
  all_goals first | rw [outsAt0_A m c t h] | rw [outsAt0_B m c t h]
  all_goals
    dsimp only; frame_out
    exact dy1_at m c t _ _ r k

/-- The first branch input's cotangent. -/
theorem final11 (c : Dev nD) : (dats m 0 c).arrAt 11 (cfgs 0).N = fun j : (⟨2, ![4096, 512]⟩ : Shape).Idx =>
      dO (m ((c : Thread nD τ).loc main_arg0)) (m ((c : Thread nD τ).loc main_arg1)) (m ((c : Thread nD τ).loc main_arg4))
        (m ((c : Thread nD τ).loc main_arg7)) (m ((c : Thread nD τ).loc main_arg5)) 0 (j 0) (j 1) := by
  refine (dats m 0 c).arrAt_eq_of_covers 11 _ (by decide +kernel) fun t _ y => ?_
  obtain ⟨r, k, rfl⟩ := exists_ix2 (n := 512) (k := 512) y
  have e : (win0_11.blk t).view.emb (ix2 r k) = ix2 (row t r) k := by blk_ext [idx t, row]
  blk_simp
  rw [e, after0_11]
  by_cases h : t.val % 8 = 0
  all_goals first | rw [outsAt0_A m c t h] | rw [outsAt0_B m c t h]
  all_goals
    dsimp only; frame_out
    exact do0_at m c t _ _ r k

/-- The second branch input's cotangent. -/
theorem final12 (c : Dev nD) : (dats m 0 c).arrAt 12 (cfgs 0).N = fun j : (⟨2, ![4096, 512]⟩ : Shape).Idx =>
      dO (m ((c : Thread nD τ).loc main_arg0)) (m ((c : Thread nD τ).loc main_arg1)) (m ((c : Thread nD τ).loc main_arg4))
        (m ((c : Thread nD τ).loc main_arg7)) (m ((c : Thread nD τ).loc main_arg6)) 1 (j 0) (j 1) := by
  refine (dats m 0 c).arrAt_eq_of_covers 12 _ (by decide +kernel) fun t _ y => ?_
  obtain ⟨r, k, rfl⟩ := exists_ix2 (n := 512) (k := 512) y
  have e : (win0_12.blk t).view.emb (ix2 r k) = ix2 (row t r) k := by blk_ext [idx t, row]
  blk_simp
  rw [e, after0_12]
  by_cases h : t.val % 8 = 0
  all_goals first | rw [outsAt0_A m c t h] | rw [outsAt0_B m c t h]
  all_goals
    dsimp only; frame_out
    exact do1_at m c t _ _ r k

/-- Both gates' cotangents. -/
theorem final8 (c : Dev nD) : (dats m 0 c).arrAt 8 (cfgs 0).N =
      dGates (m ((c : Thread nD τ).loc main_arg0)) (m ((c : Thread nD τ).loc main_arg1)) (m ((c : Thread nD τ).loc main_arg4))
        (m ((c : Thread nD τ).loc main_arg7)) (m ((c : Thread nD τ).loc main_arg2)) (m ((c : Thread nD τ).loc main_arg3))
        (m ((c : Thread nD τ).loc main_arg5)) (m ((c : Thread nD τ).loc main_arg6)) := by
  refine (dats m 0 c).arrAt_eq_of_covers 8 _ (by decide +kernel) fun t _ y => ?_
  obtain ⟨r, k, rfl⟩ := exists_ix2 (n := 512) (k := 2048) y
  have e : (win0_8.blk t).view.emb (ix2 r k) = ix2 (row t r) k := by blk_ext [idx t, row]
  blk_simp
  rw [e, after0_8]
  by_cases h : t.val % 8 = 0
  all_goals first | rw [outsAt0_A m c t h] | rw [outsAt0_B m c t h]
  all_goals
    dsimp only; frame_out
    canon_tiles x h
    · obtain ⟨a, b, rfl⟩ := exists_ix2 (n := 512) (k := 1024) x
      obtain rfl : r = a := Fin.ext h0
      have hk : ¬ k.val < 1024 := by have : k.val = 1024 + b.val := h1; omega
      have hb : (⟨k.val - 1024, by omega⟩ : Fin 1024) = b := Fin.ext (by have : k.val = 1024 + b.val := h1; show k.val - 1024 = b.val; omega)
      refine (part1 m c t _ _ r b).trans ?_
      rw [← hb]; exact (dGates_right (hk := hk) ..).symm
    · obtain ⟨a, b, rfl⟩ := exists_ix2 (n := 512) (k := 1024) x
      obtain rfl : r = a := Fin.ext h0
      have hk : k.val < 1024 := lt_of_eq_of_lt h1 b.isLt
      have hb : (⟨k.val, hk⟩ : Fin 1024) = b := Fin.ext h1
      refine (part0 m c t _ _ r b).trans ?_
      rw [← hb]; exact (dGates_left (hk := hk) ..).symm

/-- What one token tile adds to the bias cotangent. -/
def term (c : Dev nD) (t : Fin cfg0.N) (y : S8x1024.Idx) : EReal :=
  if (y 0).val = 0 then ∑ r : Fin 512, dGate (m ((c : Thread nD τ).loc main_arg0)) (m ((c : Thread nD τ).loc main_arg1)) (m ((c : Thread nD τ).loc main_arg4))
        (m ((c : Thread nD τ).loc main_arg7)) (m ((c : Thread nD τ).loc main_arg2)) (m ((c : Thread nD τ).loc main_arg5)) 0 (row t r) (y 1)
  else if (y 0).val = 1 then ∑ r : Fin 512, dGate (m ((c : Thread nD τ).loc main_arg0)) (m ((c : Thread nD τ).loc main_arg1)) (m ((c : Thread nD τ).loc main_arg4))
        (m ((c : Thread nD τ).loc main_arg7)) (m ((c : Thread nD τ).loc main_arg3)) (m ((c : Thread nD τ).loc main_arg6)) 1 (row t r) (y 1)
  else 0

/-- At the first point the bias cotangent is the first tile's term: the block starts from zeros. -/
theorem stat_first (c : Dev nD) (t : Fin cfg0.N) (h : t.val % 8 = 0) (y : S8x1024.Idx) :
    (outsAt0 m c t.val t.isLt).2.2.2.2.2 y = 0 + term m c t y := by
  obtain ⟨r, k, rfl⟩ := exists_ix2 (n := 8) (k := 1024) y
  rw [outsAt0_A m c t h, zero_add]; dsimp only; frame_open
  simp (disch := decide) only [↓ View.readCov_skip, ↓ View.readCov_fill]
  frame_out
  by_cases h1 : r.val = 1
  · rw [canon_row _ _ _ r k h1]
    pointwise [k0_pay1, k0_pay4]
    simp only [part1, term, ix2_0, ix2_1, h1, if_true, if_false, one_ne_zero, zero_add]
  by_cases h0 : r.val = 0
  · rw [canon_other _ _ _ r k h1, canon_row _ _ _ r k h0]
    pointwise [k0_pay11, k0_pay9, k0_pay10, k0_pay4]
    simp only [part0, term, ix2_0, ix2_1, h0, if_true, zero_add]
  · rw [canon_other _ _ _ r k h1, canon_other _ _ _ r k h0]
    frame_out
    pointwise [k0_pay4]
    simp only [term, ix2_0, h0, h1, if_false]

/-- At a later point the tile's term is added to what the point before left. -/
theorem stat_next (c : Dev nD) (t : Fin cfg0.N) (h : ¬ t.val % 8 = 0) (y : S8x1024.Idx) :
    (outsAt0 m c t.val t.isLt).2.2.2.2.2 y
      = (outsAt0 m c (t.val - 1) (Nat.lt_of_le_of_lt (Nat.sub_le _ _) t.isLt)).2.2.2.2.2 y + term m c t y := by
  obtain ⟨r, k, rfl⟩ := exists_ix2 (n := 8) (k := 1024) y
  rw [outsAt0_B m c t h]; dsimp only; frame_out
  by_cases h1 : r.val = 1
  · refine (read_row _ _ _ _ _ r k h1).trans ?_
    obtain rfl : r = 1 := Fin.ext h1
    pointwise [k0_pay1]
    simp only [part1, term, ix2_0, ix2_1, h1, if_true, if_false, one_ne_zero]
  refine (read_other _ _ _ _ _ r k h1).trans ?_
  by_cases h0 : r.val = 0
  · refine (read_row _ _ _ _ _ r k h0).trans ?_
    obtain rfl : r = 0 := Fin.ext h0
    pointwise [k0_pay11, k0_pay9, k0_pay10]
    simp only [part0, term, ix2_0, ix2_1, h0, if_true]
  refine (read_other _ _ _ _ _ r k h0).trans ?_
  rw [View.writes_nil, Memref.IsWhole.read_unread]
  simp only [term, ix2_0, h0, h1, if_false, add_zero]

/-- The bias cotangent. -/
theorem final13 (c : Dev nD) : (dats m 0 c).arrAt 13 (cfgs 0).N =
      dBias (m ((c : Thread nD τ).loc main_arg0)) (m ((c : Thread nD τ).loc main_arg1)) (m ((c : Thread nD τ).loc main_arg4))
        (m ((c : Thread nD τ).loc main_arg7)) (m ((c : Thread nD τ).loc main_arg2)) (m ((c : Thread nD τ).loc main_arg3))
        (m ((c : Thread nD τ).loc main_arg5)) (m ((c : Thread nD τ).loc main_arg6)) := by
  refine (dats m 0 c).arrAt_eq_of_after_last 13 ⟨7, by decide +kernel⟩ (by decide +kernel) _ fun j => ?_
  obtain ⟨r, k, rfl⟩ := exists_ix2 (n := 8) (k := 1024) j
  rw [after0_13]
  have hs := Pipeline.eq_sum_fin_of_reset_step_apply_last (fun n h => (outsAt0 m c n h).2.2.2.2.2) 8 (fun _ => 0) (term m c)
    (stat_first m c) (stat_next m c) (by decide +kernel) ⟨7, by decide +kernel⟩ (by decide +kernel) (ix2 r k)
  refine (cast_eq _ _).trans (hs.trans ?_)
  have e : (cfg0.win 13).arr.view.emb (ix2 r k) = ix2 r k := by blk_ext [idx ⟨7, by decide +kernel⟩]
  rw [e, zero_add]
  by_cases h0 : r.val = 0
  · simp only [term, dBias, ix2_0, ix2_1, h0, if_true]
    exact Fin.sum_mul_add_congr (L := 4096) fun s l hl => rfl
  by_cases h1 : r.val = 1
  · simp only [term, dBias, ix2_0, ix2_1, h1, if_true, if_false, one_ne_zero]
    exact Fin.sum_mul_add_congr (L := 4096) fun s l hl => rfl
  · simp only [term, dBias, ix2_0, h0, h1, if_false]
    exact Finset.sum_const_zero

end Cert.Mix.Kernel
end
-- ==== Proof.Mix.Reference.lean ====
/- What the reference's run leaves in its six results: the gradient of the gated merge. -/
module

public import proofs.«01_k».proof.Proof.Mix.Spec
public import proofs.«01_k».proof.Proof.Gen.ReferenceIdeal.Run
public import Idealize.ShloMosaic.Lib.Pipeline.ValueKit
public import Idealize.ShloMosaic.Lib.Claim
public import proofs.«01_k».proof.Proof.Common.Rows

@[expose] public section

set_option maxRecDepth 16384

noncomputable section

open Idealize.ShloMosaic Idealize.ShloMosaic.TcCoe Idealize.SL.Sem

namespace Cert.Mix.Reference
open Cert.ReferenceIdeal Cert.ReferenceIdeal.Gen Cert.Rows

variable (ct : FVec Ideal S4096x1024 .f32) (gates : FVec Ideal S4096x2048 .f32) (bias : FVec Ideal S2x1024 .f32)
  (wOut : FVec Ideal S1024x1024 .f32) (oA oB : FVec Ideal S4096x512 .f32) (wA wB : FVec Ideal S512x1024 .f32)

/-- The reference's gates, as its operations make them. -/
abbrev gates3 : FVec Ideal S4096x2x1024 .f32 :=
  Host.divf (broadcastInDim S4096x2x1024 ![] bcast_S_S4096x2x1024 (constant S_ .f32 0x3F800000#32)) (addf (broadcastInDim S4096x2x1024 ![] bcast_S_S4096x2x1024 (constant S_ .f32 0x3F800000#32)) (Host.exp (Host.negf (addf (shapeCast _ gates shapeCasts_S4096x2048_S4096x2x1024) (broadcastInDim S4096x2x1024 ![0, 1, 2] bcast_S1x2x1024_S4096x2x1024_0_1_2 (broadcastInDim S1x2x1024 ![1, 2] bcast_S2x1024_S1x2x1024_1_2 bias))))))

theorem gates3_at (r : Fin 4096) (k : Fin 2) (c : Fin 1024) : gates3 gates bias (ix3 r k c) = gate gates bias k r c := by
  pointwise [gates3, gate, col]

/-- The reference's cotangent of the merged activations. -/
abbrev dmix2 : FVec Ideal S4096x1024 .f32 := Host.dotGeneral dot_S4096x1024_S1024x1024_S4096x1024_1_1_0_0_n_n none ct wOut

/-- The reference's branch output. -/
abbrev branch2 (o : FVec Ideal S4096x512 .f32) (w : FVec Ideal S512x1024 .f32) : FVec Ideal S4096x1024 .f32 := Host.dotGeneral dot_S4096x512_S512x1024_S4096x1024_1_0_0_1_n_n none o w

/-- The reference's gate cotangents, row by row, gate by gate. -/
abbrev dgates3 : FVec Ideal S4096x2x1024 .f32 :=
  mulf (addf (pad S4096x2x1024 ![0, 1, 0] ![0, 0, 0] ![0, 0, 0] (broadcastInDim S4096x1x1024 ![0, 2] bcast_S4096x1024_S4096x1x1024_0_2 (mulf (dmix2 ct wOut) (branch2 oB wB))) (constant S_ .f32 0x00000000#32) pads_S4096x1x1024_S4096x2x1024_000_100_000 h_S_)
      (pad S4096x2x1024 ![0, 0, 0] ![0, 1, 0] ![0, 0, 0] (broadcastInDim S4096x1x1024 ![0, 2] bcast_S4096x1024_S4096x1x1024_0_2 (mulf (dmix2 ct wOut) (branch2 oA wA))) (constant S_ .f32 0x00000000#32) pads_S4096x1x1024_S4096x2x1024_000_010_000 h_S_))
    (mulf (gates3 gates bias) (subf (broadcastInDim S4096x2x1024 ![] bcast_S_S4096x2x1024 (constant S_ .f32 0x3F800000#32)) (gates3 gates bias)))

theorem dgates3_left (r : Fin 4096) (c : Fin 1024) :
    dgates3 ct gates bias wOut oA oB wA wB (ix3 r 0 c) = dGate ct gates bias wOut oA wA 0 r c := by
  pointwise [dgates3, gates3, dmix2, branch2, dGate, dMix, branch, gate, col]

theorem dgates3_right (r : Fin 4096) (c : Fin 1024) :
    dgates3 ct gates bias wOut oA oB wA wB (ix3 r 1 c) = dGate ct gates bias wOut oB wB 1 r c := by
  pointwise [dgates3, gates3, dmix2, branch2, dGate, dMix, branch, gate, col]

theorem dgates_eq : truncf (F := Ideal) .bf16 (shapeCast S4096x2048 (dgates3 ct gates bias wOut oA oB wA wB) shapeCasts_S4096x2x1024_S4096x2048) bitsLt_bf16_f32
    = dGates ct gates bias wOut oA oB wA wB := by
  funext j
  obtain ⟨r, k, rfl⟩ := exists_ix2 (n := 4096) (k := 2048) j
  have key : ∀ X : FVec Ideal S4096x2x1024 .f32, truncf (F := Ideal) .bf16 (shapeCast S4096x2048 X shapeCasts_S4096x2x1024_S4096x2048) bitsLt_bf16_f32
      (ix2 r k) = X (ix3 r ⟨k.val / 1024, by omega⟩ ⟨k.val % 1024, by omega⟩) := by
    intro X; pointwise
  rw [key]
  by_cases hk : k.val < 1024
  · rw [dGates_left (hk := hk), ← dgates3_left]
    exact congrArg _ (congrArg₂ (ix3 r) (Fin.ext (Nat.div_eq_of_lt hk)) (Fin.ext (Nat.mod_eq_of_lt hk)))
  · rw [dGates_right (hk := hk), ← dgates3_right]
    exact congrArg _ (congrArg₂ (ix3 r) (Fin.ext (by show k.val / 1024 = 1; omega)) (Fin.ext (by show k.val % 1024 = k.val - 1024; omega)))

theorem dya_eq : truncf (F := Ideal) .bf16 (mulf (shapeCast S4096x1024 (extractStridedSlice S4096x1x1024 ![0, 0, 0] (gates3 gates bias) slices_S4096x2x1024_S4096x1x1024_0_0_0) shapeCasts_S4096x1x1024_S4096x1024) (dmix2 ct wOut)) bitsLt_bf16_f32
    = fun j : (⟨2, ![4096, 1024]⟩ : Shape).Idx => dY ct gates bias wOut 0 (j 0) (j 1) := by
  funext j
  obtain ⟨r, k, rfl⟩ := exists_ix2 (n := 4096) (k := 1024) j
  pointwise [gates3, dmix2, dY, dMix, gate, col]
  rw [mul_comm]

theorem dyb_eq : truncf (F := Ideal) .bf16 (mulf (shapeCast S4096x1024 (extractStridedSlice S4096x1x1024 ![0, 1, 0] (gates3 gates bias) slices_S4096x2x1024_S4096x1x1024_0_1_0) shapeCasts_S4096x1x1024_S4096x1024) (dmix2 ct wOut)) bitsLt_bf16_f32
    = fun j : (⟨2, ![4096, 1024]⟩ : Shape).Idx => dY ct gates bias wOut 1 (j 0) (j 1) := by
  funext j
  obtain ⟨r, k, rfl⟩ := exists_ix2 (n := 4096) (k := 1024) j
  pointwise [gates3, dmix2, dY, dMix, gate, col]
  rw [mul_comm]

theorem doa_eq (w : FVec Ideal S512x1024 .f32) :
    truncf (F := Ideal) .bf16 (Host.dotGeneral dot_S4096x1024_S512x1024_S4096x512_1_1_0_0_n_n none (mulf (shapeCast S4096x1024 (extractStridedSlice S4096x1x1024 ![0, 0, 0] (gates3 gates bias) slices_S4096x2x1024_S4096x1x1024_0_0_0) shapeCasts_S4096x1x1024_S4096x1024) (dmix2 ct wOut)) w) bitsLt_bf16_f32
    = fun j : (⟨2, ![4096, 512]⟩ : Shape).Idx => dO ct gates bias wOut w 0 (j 0) (j 1) := by
  funext j
  obtain ⟨r, k, rfl⟩ := exists_ix2 (n := 4096) (k := 512) j
  pointwise [gates3, dmix2, dO, dY, dMix, gate, col]
  refine Fin.sum_fin_congr fun n => ?_
  congr 1
  rw [mul_comm]

theorem dob_eq (w : FVec Ideal S512x1024 .f32) :
    truncf (F := Ideal) .bf16 (Host.dotGeneral dot_S4096x1024_S512x1024_S4096x512_1_1_0_0_n_n none (mulf (shapeCast S4096x1024 (extractStridedSlice S4096x1x1024 ![0, 1, 0] (gates3 gates bias) slices_S4096x2x1024_S4096x1x1024_0_1_0) shapeCasts_S4096x1x1024_S4096x1024) (dmix2 ct wOut)) w) bitsLt_bf16_f32
    = fun j : (⟨2, ![4096, 512]⟩ : Shape).Idx => dO ct gates bias wOut w 1 (j 0) (j 1) := by
  funext j
  obtain ⟨r, k, rfl⟩ := exists_ix2 (n := 4096) (k := 512) j
  pointwise [gates3, dmix2, dO, dY, dMix, gate, col]
  refine Fin.sum_fin_congr fun n => ?_
  congr 1
  rw [mul_comm]

theorem dbias_eq (z : FVec Ideal S_ .f32) (hz : ∀ i, z i = 0) :
    pad S8x1024 ![0, 0] ![6, 0] ![0, 0] (Host.reduceAdd (shapeCast S1x2x1024 (Host.reduceAdd (dgates3 ct gates bias wOut oA oB wA wB) (constant S_ .f32 0x00000000#32) reducesTo_S4096x2x1024_S2x1024_d0 h_S_) shapeCasts_S2x1024_S1x2x1024) (constant S_ .f32 0x00000000#32) reducesTo_S1x2x1024_S2x1024_d0 h_S_) z pads_S2x1024_S8x1024_060_000 h_S_
    = dBias ct gates bias wOut oA oB wA wB := by
  funext j
  obtain ⟨r, k, rfl⟩ := exists_ix2 (n := 8) (k := 1024) j
  have key : ∀ X : FVec Ideal S4096x2x1024 .f32, pad S8x1024 ![0, 0] ![6, 0] ![0, 0] (Host.reduceAdd (shapeCast S1x2x1024 (Host.reduceAdd X (constant S_ .f32 0x00000000#32) reducesTo_S4096x2x1024_S2x1024_d0 h_S_) shapeCasts_S2x1024_S1x2x1024) (constant S_ .f32 0x00000000#32) reducesTo_S1x2x1024_S2x1024_d0 h_S_) z pads_S2x1024_S8x1024_060_000 h_S_ (ix2 r k)
      = if h : r.val < 2 then ∑ n : Fin 4096, X (ix3 n ⟨r.val, h⟩ k) else 0 := by
    intro X; pointwise
    split <;> first | rfl | exact hz _ | exact Fin.sum_univ_one _ | skip
  rw [key]
  by_cases h0 : r.val = 0
  · obtain rfl : r = 0 := Fin.ext h0
    exact Fin.sum_fin_congr fun n => dgates3_left ct gates bias wOut oA oB wA wB n k
  by_cases h1 : r.val = 1
  · obtain rfl : r = 1 := Fin.ext h1
    exact Fin.sum_fin_congr fun n => dgates3_right ct gates bias wOut oA oB wA wB n k
  · rw [dif_neg (by omega)]
    simp only [dBias, ix2_0, h0, h1, if_false]

end Cert.Mix.Reference
end
-- ==== Proof.Mix.Claim.lean ====
/- The two programs of the merge's gradient end with the same six arrays. -/
module

public import proofs.«01_k».proof.Defs
public import proofs.«01_k».proof.Proof.Mix.Kernel
public import proofs.«01_k».proof.Proof.Mix.Reference

@[expose] public section

set_option maxRecDepth 16384

noncomputable section

open Idealize.ShloMosaic Idealize.ShloMosaic.TcCoe Idealize.SL.Sem

namespace Cert.Mix.Kernel
open Cert.KernelIdeal Cert.KernelIdeal.Gen

/-- The kernel's program ends with the six gradients in its results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9_0) = (dGates (m ((c : Thread nD τ).loc main_arg0)) (m ((c : Thread nD τ).loc main_arg1)) (m ((c : Thread nD τ).loc main_arg4)) (m ((c : Thread nD τ).loc main_arg7)) (m ((c : Thread nD τ).loc main_arg2)) (m ((c : Thread nD τ).loc main_arg3)) (m ((c : Thread nD τ).loc main_arg5)) (m ((c : Thread nD τ).loc main_arg6)))
      ∧ r.2.mem ((c : Thread nD τ).loc main_v9_1) = (fun j : (⟨2, ![4096, 1024]⟩ : Shape).Idx => dY (m ((c : Thread nD τ).loc main_arg0)) (m ((c : Thread nD τ).loc main_arg1)) (m ((c : Thread nD τ).loc main_arg4)) (m ((c : Thread nD τ).loc main_arg7)) 0 (j 0) (j 1))
      ∧ r.2.mem ((c : Thread nD τ).loc main_v9_2) = (fun j : (⟨2, ![4096, 1024]⟩ : Shape).Idx => dY (m ((c : Thread nD τ).loc main_arg0)) (m ((c : Thread nD τ).loc main_arg1)) (m ((c : Thread nD τ).loc main_arg4)) (m ((c : Thread nD τ).loc main_arg7)) 1 (j 0) (j 1))
      ∧ r.2.mem ((c : Thread nD τ).loc main_v9_3) = (fun j : (⟨2, ![4096, 512]⟩ : Shape).Idx => dO (m ((c : Thread nD τ).loc main_arg0)) (m ((c : Thread nD τ).loc main_arg1)) (m ((c : Thread nD τ).loc main_arg4)) (m ((c : Thread nD τ).loc main_arg7)) (m ((c : Thread nD τ).loc main_arg5)) 0 (j 0) (j 1))
      ∧ r.2.mem ((c : Thread nD τ).loc main_v9_4) = (fun j : (⟨2, ![4096, 512]⟩ : Shape).Idx => dO (m ((c : Thread nD τ).loc main_arg0)) (m ((c : Thread nD τ).loc main_arg1)) (m ((c : Thread nD τ).loc main_arg4)) (m ((c : Thread nD τ).loc main_arg7)) (m ((c : Thread nD τ).loc main_arg6)) 1 (j 0) (j 1))
      ∧ r.2.mem ((c : Thread nD τ).loc main_v9_5) = (dBias (m ((c : Thread nD τ).loc main_arg0)) (m ((c : Thread nD τ).loc main_arg1)) (m ((c : Thread nD τ).loc main_arg4)) (m ((c : Thread nD τ).loc main_arg7)) (m ((c : Thread nD τ).loc main_arg2)) (m ((c : Thread nD τ).loc main_arg3)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.1 c).1 8).trans (final8 m c), ((h.1 c).1 9).trans (final9 m c), ((h.1 c).1 10).trans (final10 m c), ((h.1 c).1 11).trans (final11 m c), ((h.1 c).1 12).trans (final12 m c), ((h.1 c).1 13).trans (final13 m c),
      h.2 c⟩) (θ_run_and (run_main m ρ) (unchanged m ρ))

end Cert.Mix.Kernel

namespace Cert.Mix.Reference
open Cert.ReferenceIdeal Cert.ReferenceIdeal.Gen

/-- The value the padding puts in: the integer zero as a float. -/
theorem pad_zero (i : S_.Idx) : (sitofp .f32 (constantI S_ 32 0#32) : FVec Ideal S_ .f32) i = 0 := by
  show ((((0#32 : BitVec 32).toInt : ℤ) : ℝ) : EReal) = 0
  simp

/-- The reference's program ends with the same six functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v40) = (dGates (m ((c : Thread nD τ).loc main_arg0)) (m ((c : Thread nD τ).loc main_arg1)) (m ((c : Thread nD τ).loc main_arg4)) (m ((c : Thread nD τ).loc main_arg7)) (m ((c : Thread nD τ).loc main_arg2)) (m ((c : Thread nD τ).loc main_arg3)) (m ((c : Thread nD τ).loc main_arg5)) (m ((c : Thread nD τ).loc main_arg6)))
      ∧ r.2.mem ((c : Thread nD τ).loc main_v41) = (fun j : (⟨2, ![4096, 1024]⟩ : Shape).Idx => dY (m ((c : Thread nD τ).loc main_arg0)) (m ((c : Thread nD τ).loc main_arg1)) (m ((c : Thread nD τ).loc main_arg4)) (m ((c : Thread nD τ).loc main_arg7)) 0 (j 0) (j 1))
      ∧ r.2.mem ((c : Thread nD τ).loc main_v42) = (fun j : (⟨2, ![4096, 1024]⟩ : Shape).Idx => dY (m ((c : Thread nD τ).loc main_arg0)) (m ((c : Thread nD τ).loc main_arg1)) (m ((c : Thread nD τ).loc main_arg4)) (m ((c : Thread nD τ).loc main_arg7)) 1 (j 0) (j 1))
      ∧ r.2.mem ((c : Thread nD τ).loc main_v43) = (fun j : (⟨2, ![4096, 512]⟩ : Shape).Idx => dO (m ((c : Thread nD τ).loc main_arg0)) (m ((c : Thread nD τ).loc main_arg1)) (m ((c : Thread nD τ).loc main_arg4)) (m ((c : Thread nD τ).loc main_arg7)) (m ((c : Thread nD τ).loc main_arg5)) 0 (j 0) (j 1))
      ∧ r.2.mem ((c : Thread nD τ).loc main_v44) = (fun j : (⟨2, ![4096, 512]⟩ : Shape).Idx => dO (m ((c : Thread nD τ).loc main_arg0)) (m ((c : Thread nD τ).loc main_arg1)) (m ((c : Thread nD τ).loc main_arg4)) (m ((c : Thread nD τ).loc main_arg7)) (m ((c : Thread nD τ).loc main_arg6)) 1 (j 0) (j 1))
      ∧ r.2.mem ((c : Thread nD τ).loc main_v45) = (dBias (m ((c : Thread nD τ).loc main_arg0)) (m ((c : Thread nD τ).loc main_arg1)) (m ((c : Thread nD τ).loc main_arg4)) (m ((c : Thread nD τ).loc main_arg7)) (m ((c : Thread nD τ).loc main_arg2)) (m ((c : Thread nD τ).loc main_arg3)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (dgates_eq _ _ _ _ _ _ _ _), (h c).2.1.trans (dya_eq _ _ _ _),
      (h c).2.2.1.trans (dyb_eq _ _ _ _), (h c).2.2.2.1.trans (doa_eq _ _ _ _ _), (h c).2.2.2.2.1.trans (dob_eq _ _ _ _ _),
      (h c).2.2.2.2.2.1.trans (dbias_eq _ _ _ _ _ _ _ _ _ pad_zero), (h c).2.2.2.2.2.2⟩) (Value.run m ρ)

end Cert.Mix.Reference

namespace Cert.Mix

/-- The reference ends, leaves its arguments alone and, having no semaphore, its counters at zero. -/
theorem reference_frame : Cert.quiescent_ReferenceIdeal := fun m ρ _ =>
  (θ_run Cert.ReferenceIdeal.defs _ _).mono (fun r h => ⟨fun c => (h c).2.2.2.2.2.2, sem_eq_zero_of_no_sems (by decide) r.2⟩)
    (Reference.run m ρ)

/-- From equal arguments the two programs end with equal results. -/
theorem algebraic : Cert.algebraic_KernelIdeal_ReferenceIdeal := by
  intro m g m' g' _ hagree
  refine ⟨_, _, _, _, _, _, Kernel.run m g, (θ_run _ _ _).mono (fun r h c => ?_) (Reference.run m' g')⟩
  obtain ⟨h0, h1, h2, h3, h4, h5, h6, h7⟩ := hagree c
  rw [← h0, ← h1, ← h2, ← h3, ← h4, ← h5, ← h6, ← h7]
  exact h c

end Cert.Mix
end
-- ==== Proof.Common.Norm.lean ====
/- The layer norm of one row of 1024 numbers, and two forms of its gradient: the one a kernel computes in a single
   pass, and the one the chain rule gives through the mean, the centring, the variance and the reciprocal root. -/
module

public import Idealize.ShloMosaic.Lib.Pointwise
public import Idealize.ShloMosaic.PureOps.Ideal
public import Mathlib.Tactic.FieldSimp
public import Mathlib.Tactic.Ring
public import Mathlib.Tactic.LinearCombination

@[expose] public section

noncomputable section

open Idealize.ShloMosaic

namespace Cert.Norm

/-! ## Rows -/

/-- One row. -/
abbrev Row : Type := Fin 1024 → EReal

/-- The row's length, 1024, as the float that divides its sums. -/
def width : EReal := Ideal.ofBits .f32 0x44800000#32

/-- What is added to the variance. -/
def eps : EReal := Ideal.ofBits .f32 0x3727C5AC#32

/-- The mean of a row, -/
def mean (v : Row) : EReal := Ideal.div (∑ k, v k) width

/-- the row less its mean, -/
def cen (v : Row) : Row := fun k => v k - mean v

/-- its variance with the small number added, -/
def var (v : Row) : EReal := mean (fun k => cen v k * cen v k) + eps

/-- the reciprocal of its deviation, -/
def rstd (v : Row) : EReal := Ideal.rsqrt (var v)

/-- and the normed row. -/
def xhat (v : Row) : Row := fun k => cen v k * rstd v

/-- The norm's gradient in one pass: `d` is the cotangent of the normed row `x`, and `r` the reciprocal deviation. -/
def back (d x : Row) (r : EReal) : Row := fun k => r * (d k - mean d - x k * mean (fun k => d k * x k))

/-- The variance's cotangent by the chain rule: through the reciprocal root, whose derivative is `-½ · rsqrt v / v`, and
    the mean of the squares. -/
def dVar (d v : Row) : EReal :=
  Ideal.div ((∑ k, cen v k * d k) * (Ideal.ofBits .f32 0xBF000000#32 * Ideal.div (rstd v) (var v))) width

/-- What the variance sends back to a centred entry. -/
def dSquare (d v : Row) : Row := fun k => dVar d v * (Ideal.ofBits .f32 0x40000000#32 * cen v k)

/-- The norm's gradient by the chain rule: to each entry through both centrings, less the same for the mean. -/
def chain (d v : Row) : Row := fun k =>
  d k * rstd v + dSquare d v k + Ideal.div ((∑ k, -(d k * rstd v)) + ∑ k, -dSquare d v k) width

/-! ## Numbers that are real -/

/-- An extended real that is neither infinity. -/
def IsReal (x : EReal) : Prop := ∃ r : ℝ, x = r

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem isReal_zero : IsReal 0 := ⟨0, EReal.coe_zero.symm⟩

theorem isReal_sum {ι : Type} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- A sum of reals is the real sum. -/
theorem coe_sum {ι : Type} (s : Finset ι) (f : ι → ℝ) : (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-! ## The literals -/

theorem width_eq : width = ((1024 : ℝ) : EReal) := by
  simp [width, Ideal.ofBits, Ideal.ieee]; rw [← EReal.coe_mul]; norm_num

theorem eps_pos : ∃ e : ℝ, 0 < e ∧ eps = (e : EReal) := by
  refine ⟨_, ?_, by simp [eps, Ideal.ofBits, Ideal.ieee]; rfl⟩
  positivity

theorem two_eq : Ideal.ofBits .f32 0x40000000#32 = ((2 : ℝ) : EReal) := by
  simp [Ideal.ofBits, Ideal.ieee]; rw [← EReal.coe_mul]; norm_num

theorem half_eq : Ideal.ofBits .f32 0xBF000000#32 = ((-(1 / 2) : ℝ) : EReal) := by
  simp [Ideal.ofBits, Ideal.ieee]; rw [← EReal.coe_mul]; norm_num

/-! ## The norm at real rows -/

/-- The mean of a real row. -/
theorem mean_coe (v : Fin 1024 → ℝ) : mean (fun k => (v k : EReal)) = (((∑ k, v k) / 1024 : ℝ) : EReal) := by
  rw [mean, width_eq, coe_sum, Ideal.div_coe (by norm_num), ← EReal.coe_mul]
  congr 1; ring

/-- A real row's centred row is real, and sums to zero; its variance is positive, so its reciprocal deviation is a real
    number `r` with `r² · (variance) = 1`. -/
theorem real_row (v : Row) (hv : ∀ k, IsReal (v k)) : ∃ (c : Fin 1024 → ℝ) (w r : ℝ), cen v = (fun k => (c k : EReal))
    ∧ ∑ k, c k = 0 ∧ var v = (w : EReal) ∧ w ≠ 0 ∧ rstd v = (r : EReal) ∧ r * r * w = 1 := by
  choose u hu using hv
  obtain rfl : v = fun k => (u k : EReal) := funext hu
  obtain ⟨e, he, hE⟩ := eps_pos
  have hc : cen (fun k => (u k : EReal)) = fun k => ((u k - (∑ k, u k) / 1024 : ℝ) : EReal) := by
    funext k; rw [cen, mean_coe, EReal.coe_sub]
  set c : Fin 1024 → ℝ := fun k => u k - (∑ k, u k) / 1024 with hcdef
  have hw : var (fun k => (u k : EReal)) = (((∑ k, c k * c k) / 1024 + e : ℝ) : EReal) := by
    rw [var, hE, hc]
    simp only [← EReal.coe_mul]
    rw [mean_coe, EReal.coe_add]
  have hpos : 0 < (∑ k, c k * c k) / 1024 + e := by
    have : 0 ≤ ∑ k, c k * c k := Finset.sum_nonneg fun k _ => mul_self_nonneg _
    positivity
  refine ⟨c, _, (Real.sqrt ((∑ k, c k * c k) / 1024 + e))⁻¹, hc, ?_, hw, hpos.ne', ?_, ?_⟩
  · simp only [hcdef, Finset.sum_sub_distrib, Finset.sum_const, Finset.card_univ, Fintype.card_fin, nsmul_eq_mul]
    push_cast; ring
  · rw [rstd, hw, Ideal.rsqrt_coe, if_neg (not_lt.mpr hpos.le), if_neg hpos.ne']
  · rw [← mul_inv, Real.mul_self_sqrt hpos.le, inv_mul_cancel₀ hpos.ne']

/-- The normed row of a real row is real. -/
theorem xhat_real (v : Row) (hv : ∀ k, IsReal (v k)) (k : Fin 1024) : IsReal (xhat v k) := by
  obtain ⟨c, w, r, hc, -, -, -, hr, -⟩ := real_row v hv
  rw [xhat, hc, hr]
  exact (isReal_coe _).mul (isReal_coe _)

/-- At real rows the two forms of the gradient agree. -/
theorem back_eq_chain (d v : Row) (hd : ∀ k, IsReal (d k)) (hv : ∀ k, IsReal (v k)) :
    back d (xhat v) (rstd v) = chain d v := by
  obtain ⟨c, w, r, hc, hsum, hw, hw0, hr, hrw⟩ := real_row v hv
  choose u hu using hd
  obtain rfl : d = fun k => (u k : EReal) := funext hu
  funext k
  have hx : xhat v = fun k => ((c k * r : ℝ) : EReal) := by
    funext k; rw [xhat, hc, hr, EReal.coe_mul]
  have hV : dVar (fun k => (u k : EReal)) v = (((∑ k, c k * u k) * (-(1 / 2) * (r / w)) / 1024 : ℝ) : EReal) := by
    rw [dVar, hc, hr, hw, half_eq, width_eq, Ideal.div_coe hw0, Ideal.div_coe (by norm_num)]
    simp only [← EReal.coe_mul]
    rw [coe_sum]
    simp only [← EReal.coe_mul]
    congr 1; ring
  have hS : dSquare (fun k => (u k : EReal)) v
      = fun k => (((∑ k, c k * u k) * (-(1 / 2) * (r / w)) / 1024 * (2 * c k) : ℝ) : EReal) := by
    funext k; rw [dSquare, hV, hc, two_eq, ← EReal.coe_mul, ← EReal.coe_mul]
  rw [back, chain, hx, hS, hr, width_eq, mean_coe, Ideal.div_coe (by norm_num)]
  simp only [← EReal.coe_mul, ← EReal.coe_neg]
  rw [mean_coe, coe_sum, coe_sum]
  simp only [← EReal.coe_mul, ← EReal.coe_neg, ← EReal.coe_sub, ← EReal.coe_add]
  congr 1
  have h1 : ∑ k, u k * (c k * r) = r * ∑ k, c k * u k := by
    rw [Finset.mul_sum]; exact Finset.sum_congr rfl fun k _ => by ring
  have h2 : ∑ k, -(u k * r) = -(r * ∑ k, u k) := by
    rw [Finset.mul_sum, ← Finset.sum_neg_distrib]; exact Finset.sum_congr rfl fun k _ => by ring
  have h3 : ∑ k, -((∑ k, c k * u k) * (-(1 / 2) * (r / w)) / 1024 * (2 * c k)) = 0 := by
    rw [Finset.sum_neg_distrib, ← Finset.mul_sum, ← Finset.mul_sum, hsum]; ring
  have h4 : r / w = r * r * r := by
    rw [div_eq_iff hw0]; linear_combination (-r) * hrw
  rw [h1, h2, h3, h4]
  ring

end Cert.Norm
end
-- ==== Proof.Common.Finite.lean ====
/- A host test "every entry's magnitude is below infinity", read as: every entry is a real number. -/
module

public import proofs.«01_k».proof.Proof.Common.Norm
public import Idealize.ShloMosaic.Lib.ReduceAll
public import Idealize.ShloMosaic.Lib.Pipeline.ValueKit

@[expose] public section

namespace Cert.Norm

open Idealize.ShloMosaic

/-- The shape of one number. -/
abbrev Scalar0 : Shape := ⟨0, ![]⟩

/-- A number whose magnitude is below infinity is real. -/
theorem isReal_of_abs_lt_top (x : EReal) (h : max x (-x) < ⊤) : IsReal x := by
  induction x using EReal.rec with
  | bot => simp at h
  | coe r => exact isReal_coe r
  | top => simp at h

/-- Two tests both hold when their conjunction does. -/
theorem both_of_andi (a b : BitVec 1) (h : IntOp.andi a b = 1#1) : a = 1#1 ∧ b = 1#1 := by
  revert h; revert a b; decide

/-- The test over a whole array gives a real number at every entry. -/
theorem isReal_of_all {s : Shape} {axes : List (Fin s.rank)} (x : FVec Ideal s .f32)
    (hb : Scalar0.BroadcastsInDim s (![] : Fin 0 → Fin s.rank)) (hr : s.ReducesTo axes Scalar0) (h0 : 0 < Scalar0.numel)
    (j : Scalar0.Idx)
    (h : Host.reduce IntOp.andi (cmpf .olt (Host.absf x) (broadcastInDim s ![] hb (constant Scalar0 .f32 0x7F800000#32)))
      (constantI Scalar0 1 1#1) hr h0 j = 1#1) (i : s.Idx) : IsReal (x i) := by
  have hi := Host.reduce_andi_all _ _ _ _ j h i
  refine isReal_of_abs_lt_top _ ?_
  by_contra hc
  have htop : Ideal.ofBits .f32 0x7F800000#32 = ⊤ := by simp [Ideal.ofBits, Ideal.ieee]
  have e : cmpf .olt (Host.absf x) (broadcastInDim s ![] hb (constant Scalar0 .f32 0x7F800000#32)) i
      = BitVec.ofBool (decide (max (x i) (-(x i)) < Ideal.ofBits .f32 0x7F800000#32)) := rfl
  rw [e, htop, decide_eq_false hc] at hi
  exact absurd hi (by decide)

end Cert.Norm
-- ==== Proof.Mlp.Spec.lean ====
/- The gradient of the MLP's sublayer, written as plain sums over extended reals.

   The sublayer norms a row of `z`, scales and shifts it by `g` and `b`, takes it through `w₁`, a squared ReLU and `w₂`, and
   adds a multiple of the normed row to the result.  Of a cotangent `ct` of what comes out, `dHidden` is the cotangent
   of the hidden units, `dNormed` that of the normed row, `dz` that of `z`, and `dScale` those of `g` and `b`. -/
module

public import proofs.«01_k».proof.Proof.Common.Norm

@[expose] public section

noncomputable section

open Idealize.ShloMosaic

namespace Cert.Mlp
open Cert.Norm

/-- A matrix of extended reals. -/
abbrev Mat (n k : ℕ) : Type := (⟨2, ![n, k]⟩ : Shape).Idx → EReal

/-- What the sublayer's gradient is a function of. -/
structure Data where
  ct : Mat 4096 1024
  z : Mat 4096 1024
  g : Mat 1 1024
  b : Mat 1 1024
  w1 : Mat 1024 4096
  w2 : Mat 4096 1024

namespace Data
variable (D : Data)

/-- Token `n`'s row of `z`. -/
def line (n : Fin 4096) : Row := fun k => D.z (ix2 n k)

/-- The normed, scaled and shifted row. -/
def normed (n : Fin 4096) (k : Fin 1024) : EReal := xhat (D.line n) k * D.g (ix2 0 k) + D.b (ix2 0 k)

/-- The hidden units before the squared ReLU. -/
def hidden (n j : Fin 4096) : EReal := ∑ k : Fin 1024, D.normed n k * D.w1 (ix2 k j)

/-- The hidden units' cotangent: `ct · w₂ᵀ`, times the derivative of the squared ReLU. -/
def dHidden (n j : Fin 4096) : EReal :=
  (∑ k : Fin 1024, D.ct (ix2 n k) * D.w2 (ix2 j k)) * (Ideal.ofBits .f32 0x40000000#32 * max (D.hidden n j) 0)

/-- The part of the normed row's cotangent that comes through the hidden units. -/
def dInner (n : Fin 4096) (k : Fin 1024) : EReal := ∑ j : Fin 4096, D.dHidden n j * D.w1 (ix2 k j)

/-- The normed row's cotangent, with the part that bypasses the MLP. -/
def dNormed (n : Fin 4096) (k : Fin 1024) : EReal :=
  Ideal.ofBits .f32 0x3F9837F0#32 * D.ct (ix2 n k) + D.dInner n k

/-- The cotangent of the row before scaling. -/
def dRow (n : Fin 4096) : Row := fun k => D.dNormed n k * D.g (ix2 0 k)

/-- The cotangent of `z`. -/
def dz (n : Fin 4096) (k : Fin 1024) : EReal := back (D.dRow n) (xhat (D.line n)) (rstd (D.line n)) k

/-- The cotangents of `g` and `b` in the first two of eight rows; the other rows are zero. -/
def dScale : Mat 8 1024 := fun j =>
  if (j 0).val = 0 then ∑ n : Fin 4096, D.dNormed n (j 1) * xhat (D.line n) (j 1)
  else if (j 0).val = 1 then ∑ n : Fin 4096, D.dNormed n (j 1)
  else 0

/-- Every entry is a real number. -/
structure Finite : Prop where
  ct : ∀ i, IsReal (D.ct i)
  z : ∀ i, IsReal (D.z i)
  g : ∀ i, IsReal (D.g i)
  b : ∀ i, IsReal (D.b i)
  w1 : ∀ i, IsReal (D.w1 i)
  w2 : ∀ i, IsReal (D.w2 i)

theorem isReal_alpha : IsReal (Ideal.ofBits .f32 0x3F9837F0#32) := by
  refine ⟨9975792 / 8388608, ?_⟩
  simp [Ideal.ofBits, Ideal.ieee]; rw [← EReal.coe_mul]; norm_num

theorem isReal_two : IsReal (Ideal.ofBits .f32 0x40000000#32) := two_eq ▸ isReal_coe 2

/-- Then so is every entry of the cotangent of the row before scaling. -/
theorem Finite.dRow {D : Data} (h : D.Finite) (n : Fin 4096) (k : Fin 1024) : IsReal (D.dRow n k) := by
  have hu : ∀ j, IsReal (D.hidden n j) := fun j => isReal_sum _ _ fun k =>
    (((xhat_real _ (fun k => h.z _) k).mul (h.g _)).add (h.b _)).mul (h.w1 _)
  have hd : ∀ j, IsReal (D.dHidden n j) := fun j =>
    (isReal_sum _ _ fun k => (h.ct _).mul (h.w2 _)).mul (isReal_two.mul ((hu j).max isReal_zero))
  exact ((isReal_alpha.mul (h.ct _)).add (isReal_sum _ _ fun j => (hd j).mul (h.w1 _))).mul (h.g _)

/-- On real entries the one-pass gradient of the norm is the chain rule's. -/
theorem Finite.dz_eq {D : Data} (h : D.Finite) (n : Fin 4096) (k : Fin 1024) :
    D.dz n k = chain (D.dRow n) (D.line n) k :=
  congrFun (back_eq_chain (D.dRow n) (D.line n) (h.dRow n) fun k => h.z _) k

end Data

end Cert.Mlp
end
-- ==== Proof.Mlp.Blocks.lean ====
/- What the kernel's windows hold at each grid point, and what the body computes from them.  Point `t` takes token tile
   `t / 2` of 512 rows and half `t % 2` of the hidden units. -/
module

public import proofs.«01_k».proof.Proof.Mlp.Spec
public import proofs.«01_k».proof.Proof.Common.Rows
public import proofs.«01_k».proof.Proof.Gen.Kernel2Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mlp.Kernel
open Cert.Norm Cert.Rows Cert.Kernel2Ideal Cert.Kernel2Ideal.Gen
variable (m : (ℓ : Loc nD τ sig) → Buf (Elt Ideal) ℓ)

/-- The kernel's arguments. -/
def data (c : Dev nD) : Data where
  ct := m ((c : Thread nD τ).loc main_arg0)
  z := m ((c : Thread nD τ).loc main_arg1)
  g := m ((c : Thread nD τ).loc main_arg2)
  b := m ((c : Thread nD τ).loc main_arg3)
  w1 := m ((c : Thread nD τ).loc main_arg4)
  w2 := m ((c : Thread nD τ).loc main_arg5)

/-- Row `r` of the token tile at point `t`. -/
def row (t : Fin cfg0.N) (r : Fin 512) : Fin 4096 := ⟨t.val / 2 * 512 + r.val, by
  have : t.val < 16 := lt_of_lt_of_eq t.isLt (by decide +kernel); omega⟩

/-- Hidden unit `j` of the half at point `t`. -/
def unit (t : Fin cfg0.N) (j : Fin 2048) : Fin 4096 := ⟨t.val % 2 * 2048 + j.val, by omega⟩

/-- Hidden unit `j` of shard `s` of the half, as one of the half's units. -/
def lane (s : Fin 4) (j : Fin 512) : Fin 2048 := ⟨s.val * 512 + j.val, by omega⟩

/-- Every window's block at every grid point. -/
theorem idx : ∀ t : Fin cfg0.N, win0_0.index t = ![t.val / 2, 0] ∧ win0_1.index t = ![t.val / 2, 0]
    ∧ win0_2.index t = ![t.val / 2, t.val % 2] ∧ win0_3.index t = ![t.val / 2, 0] ∧ win0_4.index t = ![t.val / 2, 0]
    ∧ win0_5.index t = ![t.val % 2, 0, 0] ∧ win0_6.index t = ![t.val % 2, 0] ∧ win0_7.index t = ![0, 0]
    ∧ win0_8.index t = ![t.val / 2, t.val % 2] ∧ win0_9.index t = ![t.val / 2, 0] ∧ win0_10.index t = ![t.val / 2, 0]
    ∧ win0_11.index t = ![0, 0] ∧ t.val < 16 :=
  (by decide +kernel : ∀ t : Fin grid0.N, _)

/-- The cotangent's rows. -/
theorem read0 (c : Dev nD) (t : Fin cfg0.N) (r : Fin 512) (k : Fin 1024) :
    iblk m c 0 t (ix2 r k) = (data m c).ct (ix2 (row t r) k) := by
  show _ = m ((c : Thread nD τ).loc main_arg0) (ix2 (row t r) k)
  blk_ext! [iblk, V, idx t, row]

/-- The same rows, cast. -/
theorem read1 (c : Dev nD) (t : Fin cfg0.N) (r : Fin 512) (k : Fin 1024) :
    iblk m c 1 t (ix2 r k) = (data m c).ct (ix2 (row t r) k) := by
  show _ = m ((c : Thread nD τ).loc main_arg0) (ix2 (row t r) k)
  blk_ext! [iblk, V, idx t, row]

/-- The first weight's shards. -/
theorem read5 (c : Dev nD) (t : Fin cfg0.N) (s : Fin 4) (k : Fin 1024) (j : Fin 512) :
    iblk m c 5 t (ix3 s k j) = (data m c).w1 (ix2 k (unit t (lane s j))) := by
  show _ = m ((c : Thread nD τ).loc main_arg4) (ix2 k (unit t (lane s j)))
  blk_simp [iblk, V]
  entry_read
  pointwise [row, unit, lane]
  blk_point [iblk, V, idx t, row, unit, lane]

/-- The second weight's rows. -/
theorem read6 (c : Dev nD) (t : Fin cfg0.N) (j : Fin 2048) (k : Fin 1024) :
    iblk m c 6 t (ix2 j k) = (data m c).w2 (ix2 (unit t j) k) := by
  show _ = m ((c : Thread nD τ).loc main_arg5) (ix2 (unit t j) k)
  blk_ext! [iblk, V, idx t, unit]

/-- The norm's scale. -/
theorem read7 (c : Dev nD) (t : Fin cfg0.N) (k : Fin 1024) :
    iblk m c 7 t (ix2 (0 : Fin 1) k) = (data m c).g (ix2 0 k) := by
  show _ = m ((c : Thread nD τ).loc main_arg2) (ix2 0 k)
  blk_ext! [iblk, V, idx t]

/-- The normed rows. -/
theorem read3 (c : Dev nD) (t : Fin cfg0.N) (r : Fin 512) (k : Fin 1024) :
    iblk m c 3 t (ix2 r k) = xhat ((data m c).line (row t r)) k := by
  blk_simp [iblk, V]
  have e : ((View.whole main_v15).slice (win0_3.rect t)).emb (ix2 r k) = ix2 (row t r) k := by
    blk_ext [idx t, row]
  entry_read
  rw [e]
  pointwise [xhat, cen, rstd, var, mean, width, eps, Data.line, data]

/-- The reciprocals of the deviations, the same number in every lane. -/
theorem read4 (c : Dev nD) (t : Fin cfg0.N) (r : Fin 512) (l : Fin 128) :
    iblk m c 4 t (ix2 r l) = rstd ((data m c).line (row t r)) := by
  blk_simp [iblk, V]
  have e : ((View.whole main_v28).slice (win0_4.rect t)).emb (ix2 r l) = ix2 (row t r) l := by
    blk_ext [idx t, row]
  entry_read
  rw [e]
  pointwise [xhat, cen, rstd, var, mean, width, eps, Data.line, data]

/-- The hidden units before the squared ReLU. -/
theorem read2 (c : Dev nD) (t : Fin cfg0.N) (r : Fin 512) (j : Fin 2048) :
    iblk m c 2 t (ix2 r j) = (data m c).hidden (row t r) (unit t j) := by
  blk_simp [iblk, V]
  have e : ((View.whole main_v23).slice (win0_2.rect t)).emb (ix2 r j) = ix2 (row t r) (unit t j) := by
    blk_ext [idx t, row, unit]
  entry_read
  rw [e]
  pointwise [Data.hidden, Data.normed, xhat, cen, rstd, var, mean, width, eps, Data.line, data]

/-- The hidden units' cotangent on the tile. -/
theorem du_at (c : Dev nD) (t : Fin cfg0.N) (r : Fin 512) (j : Fin 2048) :
    k0_pay12 (F := Ideal) (iblk m c 1 t) (iblk m c 6 t) (iblk m c 2 t) (ix2 r j)
      = (data m c).dHidden (row t r) (unit t j) := by
  pointwise [k0_pay12, Data.dHidden]
  simp only [read1, read2, read6]

/-- One term of the sum an entry of the normed row's cotangent is. -/
def inner (c : Dev nD) (t : Fin cfg0.N) (y : S512x1024.Idx) (n : Fin 4096) : EReal :=
  (data m c).dHidden (row t (y 0)) n * (data m c).w1 (ix2 (y 1) n)

/-- One point adds its half of the hidden units, shard by shard, to what the accumulator held. -/
theorem step (c : Dev nD) (t : Fin cfg0.N) (x : Vec Ideal S512x1024 .f32) (y : S512x1024.Idx) (b0 b1 b2 b3) :
    k0_pay1 (F := Ideal) (k0_pay12 (iblk m c 1 t) (iblk m c 6 t) (iblk m c 2 t))
      (k0_pay13 (iblk m c 1 t) (iblk m c 6 t) (iblk m c 2 t) (View.ld (iblk m c 5 t) (Rect.unit ![0, 0, 0] ![1, 1024, 512] b0)))
      (k0_pay14 (iblk m c 1 t) (iblk m c 6 t) (iblk m c 2 t) (View.ld (iblk m c 5 t) (Rect.unit ![1, 0, 0] ![1, 1024, 512] b1)))
      (View.ld (iblk m c 5 t) (Rect.unit ![2, 0, 0] ![1, 1024, 512] b2))
      (View.ld (iblk m c 5 t) (Rect.unit ![3, 0, 0] ![1, 1024, 512] b3)) x y
      = x y + ∑ j, inner m c t y (unit t j) := by
  obtain ⟨r, k, rfl⟩ := exists_ix2 (n := 512) (k := 1024) y
  have hs : ∀ f : Fin 2048 → EReal, ∑ j, f j = ∑ s : Fin 4, ∑ j : Fin 512, f (lane s j) := fun f =>
    (Fin.sum_mul_add_congr (L := 2048) fun s l hl => rfl).symm
  rw [hs, Fin.sum_univ_four]
  pointwise [k0_pay1, k0_pay13, k0_pay14]
  have h0 : ∀ j, lane 0 j = ⟨j.val, by omega⟩ := fun j => Fin.ext (by show 0 * 512 + j.val = j.val; omega)
  have h1 : ∀ j, lane 1 j = ⟨512 + j.val, by omega⟩ := fun j => Fin.ext (by show 1 * 512 + j.val = 512 + j.val; omega)
  have h2 : ∀ j, lane 2 j = ⟨1024 + j.val, by omega⟩ := fun j => Fin.ext (by show 2 * 512 + j.val = 1024 + j.val; omega)
  have h3 : ∀ j, lane 3 j = ⟨1536 + j.val, by omega⟩ := fun j => Fin.ext (by show 3 * 512 + j.val = 1536 + j.val; omega)
  simp only [du_at, inner, read5, h0, h1, h2, h3, ix2_0, ix2_1]

/-- The cotangent of `z` on the tile, from the finished accumulator. -/
theorem dz_at (c : Dev nD) (t : Fin cfg0.N) (x : Vec Ideal S512x1024 .f32)
    (hx : ∀ r k, x (ix2 r k) = (data m c).dInner (row t r) k) (hb) (r : Fin 512) (k : Fin 1024) :
    k0_pay6 (F := Ideal) (iblk m c 0 t) x (iblk m c 3 t) (View.ld (iblk m c 4 t) (Rect.unit ![0, 0] ![512, 1] hb))
      (iblk m c 7 t) (ix2 r k) = (data m c).dz (row t r) k := by
  pointwise [k0_pay6, k0_pay5, k0_pay4, Data.dz, back, mean, width, Data.dRow, Data.dNormed]
  simp only [read0, read3, read4, read7, hx]

/-- What the tile adds to the scale's cotangent, -/
theorem scale_at (c : Dev nD) (t : Fin cfg0.N) (x : Vec Ideal S512x1024 .f32)
    (hx : ∀ r k, x (ix2 r k) = (data m c).dInner (row t r) k) (old : Vec Ideal S1x1024 .f32) (k : Fin 1024) :
    k0_pay2 (F := Ideal) (k0_pay8 old) (k0_pay9 (iblk m c 0 t) x (iblk m c 3 t)) (ix2 0 k)
      = old (ix2 0 k) + ∑ r, (data m c).dNormed (row t r) k * xhat ((data m c).line (row t r)) k := by
  pointwise [k0_pay2, k0_pay8, k0_pay9, k0_pay5, k0_pay4, Data.dNormed]
  simp only [read0, read3, hx]

/-- and to the shift's. -/
theorem shift_at (c : Dev nD) (t : Fin cfg0.N) (x : Vec Ideal S512x1024 .f32)
    (hx : ∀ r k, x (ix2 r k) = (data m c).dInner (row t r) k) (old : Vec Ideal S1x1024 .f32) (k : Fin 1024) :
    k0_pay3 (F := Ideal) (k0_pay4 (iblk m c 0 t) x) old (ix2 0 k)
      = old (ix2 0 k) + ∑ r, (data m c).dNormed (row t r) k := by
  pointwise [k0_pay3, k0_pay4, Data.dNormed]
  simp only [read0, hx]

end Cert.Mlp.Kernel
end
-- ==== Proof.Wgrad.Total.lean ====
/- A product of two tall arrays, contracted over the tokens and accumulated tile by tile. -/
module

public import Idealize.ShloMosaic.Lib.Pipeline.ValueKit
public import Idealize.ShloMosaic.Lib.Claim

@[expose] public section

set_option maxRecDepth 16384

noncomputable section

open Idealize.ShloMosaic

namespace Cert.Wgrad

/-- Token `n`'s product in entry `(i, j)` of a weight's gradient. -/
def prod {K N : ℕ} (a : (⟨2, ![4096, K]⟩ : Shape).Idx → EReal) (b : (⟨2, ![4096, N]⟩ : Shape).Idx → EReal)
    (i : Fin K) (j : Fin N) (n : Fin 4096) : EReal := a (ix2 n i) * b (ix2 n j)

/-- A weight's gradient: entry `(i, j)` sums, over the 4096 tokens, column `i` of one array against column `j` of the other. -/
def weight {K N : ℕ} (a : (⟨2, ![4096, K]⟩ : Shape).Idx → EReal) (b : (⟨2, ![4096, N]⟩ : Shape).Idx → EReal)
    (i : Fin K) (j : Fin N) : EReal := ∑ n, prod a b i j n

/-- The same products with the factors the other way round. -/
theorem weight_comm {K N : ℕ} (a : (⟨2, ![4096, K]⟩ : Shape).Idx → EReal) (b : (⟨2, ![4096, N]⟩ : Shape).Idx → EReal)
    (i : Fin K) (j : Fin N) : weight a b i j = weight b a j i := by
  unfold weight
  exact Finset.sum_congr rfl fun n _ => mul_comm _ _

/-- An accumulator set to zero at the first of `J` token tiles and given one tile's sum at each holds, after the last tile,
    the sum over all tokens. The `J` tiles of one output tile are the points of equal quotient by `J`. -/
theorem total {ι : Type} {N J L : ℕ} [NeZero J] (hL : 4096 = J * L) (f : (n : ℕ) → n < N → ι → EReal)
    (g : Fin N → ι → Fin 4096 → EReal) (tok : Fin N → Fin L → Fin 4096)
    (htok : ∀ t l, (tok t l).val = t.val % J * L + l.val) (hg : ∀ t t' : Fin N, t.val / J = t'.val / J → g t = g t')
    (h0 : ∀ t : Fin N, t.val % J = 0 → ∀ i, f t.val t.isLt i = 0 + ∑ l, g t i (tok t l))
    (hs : ∀ t : Fin N, ¬t.val % J = 0 → ∀ i,
      f t.val t.isLt i = f (t.val - 1) (Nat.lt_of_le_of_lt (Nat.sub_le _ _) t.isLt) i + ∑ l, g t i (tok t l))
    (t : Fin N) (hr : t.val % J = J - 1) (i : ι) : f t.val t.isLt i = ∑ n, g t i n := by
  rw [Pipeline.eq_sum_fin_of_reset_step_apply_of_flush f J (fun _ => 0) (fun t i => ∑ l, g t i (tok t l)) h0 hs t hr i, zero_add]
  refine Fin.sum_mul_add_congr (L := 4096) (fun s l hl => ?_) hL
  have hJ : 0 < J := NeZero.pos J
  rw [hg _ t (by show (J * (t.val / J) + s.val) / J = t.val / J; rw [Nat.mul_add_div hJ, Nat.div_eq_of_lt s.isLt, Nat.add_zero])]
  congr 1
  refine Fin.ext ((htok _ l).trans ?_)
  show (J * (t.val / J) + s.val) % J * L + l.val = s.val * L + l.val
  rw [Nat.mul_add_mod, Nat.mod_eq_of_lt s.isLt]

end Cert.Wgrad
end
-- ==== Proof.Mlp.Kernel.lean ====
/- The arrays the kernel writes: the hidden units' cotangent tile by tile, the cotangent of `z` once both halves of the
   hidden units have been added up, and the scale's and shift's cotangents once all tokens have. -/
module

public import proofs.«01_k».proof.Proof.Mlp.Blocks
public import proofs.«01_k».proof.Proof.Wgrad.Total
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mlp.Kernel
open Cert.Norm Cert.Rows Cert.Kernel2Ideal Cert.Kernel2Ideal.Gen
variable (m : (ℓ : Loc nD τ sig) → Buf (Elt Ideal) ℓ)

/-- The hidden units' cotangent. -/
theorem final8 (c : Dev nD) : (dats m 0 c).arrAt 8 (cfgs 0).N =
    fun j : (⟨2, ![4096, 4096]⟩ : Shape).Idx => (data m c).dHidden (j 0) (j 1) := by
  refine (dats m 0 c).arrAt_eq_of_covers 8 _ (by decide +kernel) fun t _ y => ?_
  obtain ⟨r, k, rfl⟩ := exists_ix2 (n := 512) (k := 2048) y
  have e : (win0_8.blk t).view.emb (ix2 r k) = ix2 (row t r) (unit t k) := by blk_ext [idx t, row, unit]
  blk_simp
  rw [e, after0_8]
  by_cases h : t.val % 2 = 0
  · by_cases h' : t.val % 16 = 0
    all_goals first | rw [outsAt0_A m c t h' h (by omega)] | rw [outsAt0_C m c t h' h (by omega)]
    all_goals
      dsimp only; frame_out
      exact du_at m c t r k
  · rw [outsAt0_B m c t (by omega) h (by omega)]
    dsimp only; frame_out
    exact du_at m c t r k

/-- At the first half of the hidden units the accumulator starts from zero. -/
theorem acc_first (c : Dev nD) (t : Fin cfg0.N) (h : t.val % 2 = 0) (y : S512x1024.Idx) :
    (outsAt0 m c t.val t.isLt).2.2.2.2 y = 0 + ∑ j, inner m c t y (unit t j) := by
  by_cases h' : t.val % 16 = 0
  all_goals first | rw [outsAt0_A m c t h' h (by omega)] | rw [outsAt0_C m c t h' h (by omega)]
  all_goals
    dsimp only; frame_out
    refine (step m c t _ y _ _ _ _).trans (congrArg (· + _) ?_)
    pointwise [k0_pay11]

/-- At the second it goes on from the point before. -/
theorem acc_next (c : Dev nD) (t : Fin cfg0.N) (h : ¬t.val % 2 = 0) (y : S512x1024.Idx) :
    (outsAt0 m c t.val t.isLt).2.2.2.2 y
      = (outsAt0 m c (t.val - 1) (Nat.lt_of_le_of_lt (Nat.sub_le _ _) t.isLt)).2.2.2.2 y + ∑ j, inner m c t y (unit t j) := by
  rw [outsAt0_B m c t (by omega) h (by omega)]
  dsimp only; frame_out
  refine (step m c t _ y _ _ _ _).trans (congrArg (· + _) ?_)
  exact congrFun ((Memref.isWhole_whole cc0_scratch0).read_unread _) y

/-- After it, the accumulator holds the part of the normed rows' cotangent that comes through the hidden units. -/
theorem acc_last (c : Dev nD) (t : Fin cfg0.N) (h : t.val % 2 = 1) (r : Fin 512) (k : Fin 1024) :
    (outsAt0 m c t.val t.isLt).2.2.2.2 (ix2 r k) = (data m c).dInner (row t r) k := by
  refine (Cert.Wgrad.total rfl (fun n hn => (outsAt0 m c n hn).2.2.2.2) (inner m c) unit (fun _ _ => rfl) (fun t t' ht => ?_)
    (acc_first m c) (acc_next m c) t h (ix2 r k))
  funext y n
  simp only [inner, row, ht]

/-- The cotangent of `z` at a tile's second point. -/
theorem dz_last (c : Dev nD) (t : Fin cfg0.N) (h : t.val % 2 = 1) (r : Fin 512) (k : Fin 1024) :
    (outsAt0 m c t.val t.isLt).2.1 (ix2 r k) = (data m c).dz (row t r) k := by
  rw [outsAt0_B m c t (by omega) (by omega) h]
  dsimp only; frame_out
  refine dz_at m c t _ (fun r k => ?_) _ r k
  refine Eq.trans ?_ (acc_last m c t h r k)
  rw [outsAt0_B m c t (by omega) (by omega) h]
  dsimp only; frame_out

/-- The cotangent of `z`, -/
theorem final9 (c : Dev nD) : (dats m 0 c).arrAt 9 (cfgs 0).N =
    fun j : (⟨2, ![4096, 1024]⟩ : Shape).Idx => (data m c).dz (j 0) (j 1) := by
  refine (dats m 0 c).arrAt_eq_of_covers 9 _ (by decide +kernel) fun t hf y => ?_
  obtain ⟨r, k, rfl⟩ := exists_ix2 (n := 512) (k := 1024) y
  have e : (win0_9.blk t).view.emb (ix2 r k) = ix2 (row t r) k := by blk_ext [idx t, row]
  blk_simp
  rw [e, after0_9]
  exact dz_last m c t ((flush0_9 t).mp hf) r k

/-- and the same cast. -/
theorem final10 (c : Dev nD) : (dats m 0 c).arrAt 10 (cfgs 0).N =
    fun j : (⟨2, ![4096, 1024]⟩ : Shape).Idx => (data m c).dz (j 0) (j 1) := by
  refine (dats m 0 c).arrAt_eq_of_covers 10 _ (by decide +kernel) fun t hf y => ?_
  have h := (flush0_10 t).mp hf
  obtain ⟨r, k, rfl⟩ := exists_ix2 (n := 512) (k := 1024) y
  have e : (win0_10.blk t).view.emb (ix2 r k) = ix2 (row t r) k := by blk_ext [idx t, row]
  blk_simp
  rw [e, after0_10]
  refine Eq.trans ?_ (dz_last m c t h r k)
  rw [outsAt0_B m c t (by omega) (by omega) h]
  dsimp only; frame_out
  pointwise [k0_pay7]

/-- What a point adds to the scale's and shift's cotangents: nothing at a tile's first half, the tile's rows at its second. -/
def term (c : Dev nD) (t : Fin cfg0.N) (y : S8x1024.Idx) : EReal :=
  if t.val % 2 = 0 then 0
  else if (y 0).val = 0 then ∑ r : Fin 512, (data m c).dNormed (row t r) (y 1) * xhat ((data m c).line (row t r)) (y 1)
  else if (y 0).val = 1 then ∑ r : Fin 512, (data m c).dNormed (row t r) (y 1)
  else 0

/-- The first point starts the rows from zero. -/
theorem stat_first (c : Dev nD) (t : Fin cfg0.N) (h : t.val % 16 = 0) (y : S8x1024.Idx) :
    (outsAt0 m c t.val t.isLt).2.2.2.1 y = 0 + term m c t y := by
  have h2 : t.val % 2 = 0 := by omega
  rw [outsAt0_A m c t h h2 (by omega)]
  dsimp only; frame_out
  pointwise [k0_pay10]
  simp only [term, h2, if_true, add_zero]

/-- A later one adds its term to what the point before left. -/
theorem stat_next (c : Dev nD) (t : Fin cfg0.N) (h : ¬t.val % 16 = 0) (y : S8x1024.Idx) :
    (outsAt0 m c t.val t.isLt).2.2.2.1 y
      = (outsAt0 m c (t.val - 1) (Nat.lt_of_le_of_lt (Nat.sub_le _ _) t.isLt)).2.2.2.1 y + term m c t y := by
  obtain ⟨r, k, rfl⟩ := exists_ix2 (n := 8) (k := 1024) y
  by_cases h2 : t.val % 2 = 0
  · rw [outsAt0_C m c t h h2 (by omega)]
    simp only [term, h2, if_true, add_zero, out0_C_11]
  have h3 : t.val % 2 = 1 := by omega
  have hx : ∀ r k, _ = (data m c).dInner (row t r) k := acc_last m c t h3
  rw [outsAt0_B m c t h h2 h3] at hx ⊢
  dsimp only at hx ⊢; frame_out
  by_cases h1 : r.val = 1
  · refine (read_row _ _ _ _ _ r k h1).trans ?_
    obtain rfl : r = 1 := Fin.ext h1
    refine (shift_at m c t _ (fun r k => Eq.trans ?_ (hx r k)) _ k).trans ?_
    · frame_out
    simp only [term, h2, ix2_0, ix2_1, h1, if_true, if_false, one_ne_zero]
    pointwise
  refine (read_other _ _ _ _ _ r k h1).trans ?_
  by_cases h0 : r.val = 0
  · refine (read_row _ _ _ _ _ r k h0).trans ?_
    obtain rfl : r = 0 := Fin.ext h0
    refine (scale_at m c t _ (fun r k => Eq.trans ?_ (hx r k)) _ k).trans ?_
    · frame_out
    simp only [term, h2, ix2_0, ix2_1, h0, if_true, if_false]
    pointwise
  refine (read_other _ _ _ _ _ r k h0).trans ?_
  rw [View.writes_nil, Memref.IsWhole.read_unread]
  simp only [term, ix2_0, h0, h1, h2, if_false, add_zero]

/-- Sixteen points of which every second adds the sum of one of eight tiles of 512 tokens add the sum over all tokens. -/
theorem sum_tiles (f : Fin 4096 → EReal) (g : Fin cfg0.N → EReal) (h0 : ∀ t, t.val % 2 = 0 → g t = 0)
    (h1 : ∀ t, ¬t.val % 2 = 0 → g t = ∑ r : Fin 512, f (row t r)) (u : ∀ s : Fin 16, s.val < cfg0.N) :
    ∑ s : Fin 16, g ⟨s.val, u s⟩ = ∑ n, f n := by
  refine Eq.trans (Fin.sum_mul_add_congr (S := 8) (n := 2) (F := fun a b => g ⟨a.val * 2 + b.val, u ⟨a.val * 2 + b.val, by omega⟩⟩)
    fun a b hl => rfl).symm ?_
  refine Eq.trans ?_ (Fin.sum_mul_add_congr (S := 8) (n := 512) (L := 4096)
    (F := fun s l => f ⟨s.val * 512 + l.val, by omega⟩) fun s l hl => rfl)
  refine Finset.sum_congr rfl fun a _ => ?_
  rw [Fin.sum_univ_two, h0 _ (by show (a.val * 2 + 0) % 2 = 0; omega), zero_add,
    h1 _ (by show ¬(a.val * 2 + 1) % 2 = 0; omega)]
  refine Finset.sum_congr rfl fun r _ => congrArg f (Fin.ext ?_)
  show (a.val * 2 + 1) / 2 * 512 + r.val = a.val * 512 + r.val
  omega

/-- The scale's and shift's cotangents. -/
theorem final11 (c : Dev nD) : (dats m 0 c).arrAt 11 (cfgs 0).N = (data m c).dScale := by
  refine (dats m 0 c).arrAt_eq_of_after_last 11 ⟨15, by decide +kernel⟩ (by decide +kernel) _ fun j => ?_
  obtain ⟨r, k, rfl⟩ := exists_ix2 (n := 8) (k := 1024) j
  rw [after0_11]
  have hs := Pipeline.eq_sum_fin_of_reset_step_apply_last (fun n h => (outsAt0 m c n h).2.2.2.1) 16 (fun _ => 0) (term m c)
    (stat_first m c) (stat_next m c) (by decide +kernel) ⟨15, by decide +kernel⟩ (by decide +kernel) (ix2 r k)
  refine (cast_eq _ _).trans (hs.trans ?_)
  have e : (cfg0.win 11).arr.view.emb (ix2 r k) = ix2 r k := by blk_ext [idx ⟨15, by decide +kernel⟩]
  rw [e, zero_add]
  by_cases h0 : r.val = 0
  · simp only [Data.dScale, ix2_0, ix2_1, h0, if_true]
    exact sum_tiles _ (fun t => term m c t (ix2 r k)) (fun t h => by simp only [term, h, if_true])
      (fun t h => by simp only [term, h, ix2_0, ix2_1, h0, if_true, if_false]) _
  by_cases h1 : r.val = 1
  · simp only [Data.dScale, ix2_0, ix2_1, h1, if_true, if_false, one_ne_zero]
    exact sum_tiles (fun n => (data m c).dNormed n k) (fun t => term m c t (ix2 r k)) (fun t h => by simp only [term, h, if_true])
      (fun t h => by simp only [term, h, ix2_0, ix2_1, h1, if_true, if_false, one_ne_zero]) _
  · simp only [Data.dScale, ix2_0, h0, h1, if_false]
    refine Finset.sum_eq_zero fun s _ => ?_
    simp only [term, ix2_0, h0, h1, if_false, ite_self]

end Cert.Mlp.Kernel
end
-- ==== Proof.Common.HostNorm.lean ====
/- The layer norm of 4096 rows and its gradient as a host program computes them by the chain rule, one array operation
   after another, and the row functions they are, row by row. -/
module

public import proofs.«01_k».proof.Proof.Common.Norm
public import proofs.«01_k».proof.Proof.Common.Rows
public import Idealize.ShloMosaic.Lib.Pipeline.ValueKit
public import Idealize.ShloMosaic.Lib.Claim

@[expose] public section

set_option maxRecDepth 16384

noncomputable section

open Idealize.ShloMosaic

namespace Cert.HostNorm
open Cert.Norm Cert.Rows

/-- The shapes: the rows, one number per row as a column and as a vector, one number. -/
abbrev M : Shape := ⟨2, ![4096, 1024]⟩
abbrev C : Shape := ⟨2, ![4096, 1]⟩
abbrev L : Shape := ⟨1, ![4096]⟩
abbrev O : Shape := ⟨0, ![]⟩

theorem hO : 0 < O.numel := by decide
theorem bOC : O.BroadcastsInDim C (![] : Fin 0 → Fin C.rank) := by decide
theorem bOM : O.BroadcastsInDim M (![] : Fin 0 → Fin M.rank) := by decide
theorem bLC : L.BroadcastsInDim C (![0] : Fin 1 → Fin C.rank) := by decide
theorem bLM : L.BroadcastsInDim M (![0] : Fin 1 → Fin M.rank) := by decide
theorem bCM : C.BroadcastsInDim M (![0, 1] : Fin 2 → Fin M.rank) := by decide
theorem rML : M.ReducesTo [1] L := by decide
theorem rCL : C.ReducesTo [1] L := by decide
theorem cLC : L.ShapeCasts C := by decide

/-- Row `n` of an array. -/
def line (x : FVec Ideal M .f32) (n : Fin 4096) : Row := fun k => x (ix2 n k)

/-- The sums of the rows, as a column. -/
def sums (x : FVec Ideal M .f32) : FVec Ideal C .f32 :=
  shapeCast C (Host.reduceAdd x (constant O .f32 0x00000000#32) rML hO) cLC

/-- A column over the row's length. -/
def overWidth (x : FVec Ideal C .f32) : FVec Ideal C .f32 :=
  Host.divf x (broadcastInDim C ![] bOC (constant O .f32 0x44800000#32))

/-- The means of the rows. -/
def means (x : FVec Ideal M .f32) : FVec Ideal C .f32 :=
  overWidth (broadcastInDim C ![0] bLC (Host.reduceAdd x (constant O .f32 0x00000000#32) rML hO))

/-- A column as an array of constant rows. -/
def wide (x : FVec Ideal C .f32) : FVec Ideal M .f32 := broadcastInDim M ![0, 1] bCM x

/-- The same after a sum along the column's one entry per row. -/
def wideSum (x : FVec Ideal C .f32) : FVec Ideal M .f32 :=
  broadcastInDim M ![0] bLM (Host.reduceAdd x (constant O .f32 0x00000000#32) rCL hO)

/-- The centred rows, -/
def centred (z : FVec Ideal M .f32) : FVec Ideal M .f32 := subf z (wide (means z))

/-- their variances, -/
def vars (z : FVec Ideal M .f32) : FVec Ideal C .f32 :=
  addf (means (mulf (centred z) (centred z))) (broadcastInDim C ![] bOC (constant O .f32 0x3727C5AC#32))

/-- the reciprocals of their deviations, -/
def rstds (z : FVec Ideal M .f32) : FVec Ideal C .f32 := Host.rsqrt (vars z)

/-- and the normed rows. -/
def normed (z : FVec Ideal M .f32) : FVec Ideal M .f32 := mulf (centred z) (wide (rstds z))

/-- The variances' cotangents. -/
def dVars (d z : FVec Ideal M .f32) : FVec Ideal C .f32 :=
  overWidth (mulf (sums (mulf (centred z) d))
    (mulf (broadcastInDim C ![] bOC (constant O .f32 0xBF000000#32)) (Host.divf (rstds z) (vars z))))

/-- What the variances send back. -/
def dSquares (d z : FVec Ideal M .f32) : FVec Ideal M .f32 :=
  mulf (wideSum (dVars d z)) (mulf (broadcastInDim M ![] bOM (constant O .f32 0x40000000#32)) (centred z))

/-- The gradient. -/
def chains (d z : FVec Ideal M .f32) : FVec Ideal M .f32 :=
  addf (addf (mulf d (wide (rstds z))) (dSquares d z))
    (wideSum (overWidth (addf (sums (Host.negf (mulf d (wide (rstds z))))) (sums (Host.negf (dSquares d z))))))

variable (d x z : FVec Ideal M .f32) (y : FVec Ideal C .f32) (n : Fin 4096) (k : Fin 1024)

theorem sums_at : sums x (ix2 n 0) = ∑ k, line x n k := by pointwise [sums, line]

theorem means_at : means x (ix2 n 0) = mean (line x n) := by pointwise [means, overWidth, mean, line, width]

theorem overWidth_at : overWidth y (ix2 n 0) = Ideal.div (y (ix2 n 0)) width := by pointwise [overWidth, width]

theorem wide_at : wide y (ix2 n k) = y (ix2 n 0) := by pointwise [wide]

theorem wideSum_at : wideSum y (ix2 n k) = y (ix2 n 0) := by
  pointwise [wideSum]
  exact Fin.sum_univ_one _

theorem centred_at : centred z (ix2 n k) = cen (line z n) k := by
  show z (ix2 n k) - wide (means z) (ix2 n k) = _
  rw [wide_at, means_at]; rfl

theorem vars_at : vars z (ix2 n 0) = var (line z n) := by
  have h : line (mulf (centred z) (centred z)) n = fun k => cen (line z n) k * cen (line z n) k := by
    funext k
    show centred z (ix2 n k) * centred z (ix2 n k) = _
    rw [centred_at]
  show means (mulf (centred z) (centred z)) (ix2 n 0) + eps = _
  rw [means_at, h]; rfl

theorem rstds_at : rstds z (ix2 n 0) = rstd (line z n) := by
  show Ideal.rsqrt (vars z (ix2 n 0)) = _
  rw [vars_at]; rfl

theorem normed_at : normed z (ix2 n k) = xhat (line z n) k := by
  show centred z (ix2 n k) * wide (rstds z) (ix2 n k) = _
  rw [centred_at, wide_at, rstds_at]; rfl

theorem dVars_at : dVars d z (ix2 n 0) = dVar (line d n) (line z n) := by
  have h : ∀ k, line (mulf (centred z) d) n k = cen (line z n) k * line d n k := fun k => by
    show centred z (ix2 n k) * d (ix2 n k) = _
    rw [centred_at]; rfl
  rw [dVars, overWidth_at]
  show Ideal.div (sums (mulf (centred z) d) (ix2 n 0) * (Ideal.ofBits .f32 0xBF000000#32 * Ideal.div (rstds z (ix2 n 0)) (vars z (ix2 n 0)))) width = _
  rw [sums_at, rstds_at, vars_at]
  simp only [h]; rfl

theorem dSquares_at : dSquares d z (ix2 n k) = dSquare (line d n) (line z n) k := by
  show wideSum (dVars d z) (ix2 n k) * (Ideal.ofBits .f32 0x40000000#32 * centred z (ix2 n k)) = _
  rw [wideSum_at, dVars_at, centred_at]; rfl

/-- Row by row, the host's gradient is the chain rule's. -/
theorem chains_at : chains d z (ix2 n k) = chain (line d n) (line z n) k := by
  have h1 : ∀ k, mulf d (wide (rstds z)) (ix2 n k) = line d n k * rstd (line z n) := fun k => by
    show d (ix2 n k) * wide (rstds z) (ix2 n k) = _
    rw [wide_at, rstds_at]; rfl
  have h2 : ∀ k, line (Host.negf (mulf d (wide (rstds z)))) n k = -(line d n k * rstd (line z n)) := fun k => by
    show -(mulf d (wide (rstds z)) (ix2 n k)) = _
    rw [h1]
  have h3 : ∀ k, line (Host.negf (dSquares d z)) n k = -dSquare (line d n) (line z n) k := fun k => by
    show -(dSquares d z (ix2 n k)) = _
    rw [dSquares_at]
  show mulf d (wide (rstds z)) (ix2 n k) + dSquares d z (ix2 n k) + wideSum _ (ix2 n k) = _
  rw [h1, dSquares_at, wideSum_at, overWidth_at]
  show _ + Ideal.div (sums (Host.negf (mulf d (wide (rstds z)))) (ix2 n 0) + sums (Host.negf (dSquares d z)) (ix2 n 0)) width = _
  rw [sums_at, sums_at]
  simp only [h2, h3]; rfl

end Cert.HostNorm
end
-- ==== Proof.Mlp.Reference.lean ====
/- The reference's arrays, one host operation after another, and the entries they hold. -/
module

public import proofs.«01_k».proof.Proof.Mlp.Spec
public import proofs.«01_k».proof.Proof.Common.HostNorm
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Mlp.Reference
open Cert.Norm Cert.Rows Cert.Reference2Ideal Cert.Reference2Ideal.Gen Cert.Reference2Ideal.Value
variable (D : Data)

/-- A scalar in every entry. -/
def all (w : BitVec 32) : FVec Ideal S4096x4096 .f32 := broadcastInDim S4096x4096 ![] bcast_S_S4096x4096 (constant S_ .f32 w)

/-- A row vector in every row. -/
def rows (x : FVec Ideal S1x1024 .f32) : FVec Ideal S4096x1024 .f32 :=
  broadcastInDim S4096x1024 ![0, 1] bcast_S1x1024_S4096x1024_0_1 x

/-- The normed, scaled and shifted rows, -/
def normed : FVec Ideal S4096x1024 .f32 := addf (mulf (HostNorm.normed D.z) (rows D.g)) (rows D.b)

/-- the hidden units before the squared ReLU, -/
def hidden : FVec Ideal S4096x4096 .f32 :=
  Host.dotGeneral (φ₁ := .f32) (φ₂ := .f32) dot_S4096x1024_S1024x4096_S4096x4096_1_0_0_1_n_n none (normed D) D.w1

/-- their cotangent, -/
def dHidden : FVec Ideal S4096x4096 .f32 :=
  select (cmpf .ogt (hidden D) (all 0x00000000#32))
    (mulf (Host.dotGeneral (φ₁ := .f32) (φ₂ := .f32) dot_S4096x1024_S4096x1024_S4096x4096_1_1_0_0_n_n none D.ct D.w2)
      (mulf (all 0x40000000#32) (maximumf (hidden D) (all 0x00000000#32)))) (all 0x00000000#32)

/-- and the normed rows'. -/
def dNormed : FVec Ideal S4096x1024 .f32 :=
  addf (mulf (broadcastInDim S4096x1024 ![] bcast_S_S4096x1024 (constant S_ .f32 0x3F9837F0#32)) D.ct)
    (Host.dotGeneral (φ₁ := .f32) (φ₂ := .f32) dot_S4096x4096_S1024x4096_S4096x1024_1_1_0_0_n_n none (dHidden D) D.w1)

/-- The cotangent of the rows before scaling. -/
def dRow : FVec Ideal S4096x1024 .f32 := mulf (dNormed D) (rows D.g)

/-- The sums over the tokens, as a row. -/
def down (x : FVec Ideal S4096x1024 .f32) : FVec Ideal S1x1024 .f32 :=
  shapeCast S1x1024 (Host.reduceAdd x (constant S_ .f32 0x00000000#32) reducesTo_S4096x1024_S1024_d0 h_S_) shapeCasts_S1024_S1x1024

/-- Two rows on top of six rows of zeros. -/
def stack (x y : FVec Ideal S1x1024 .f32) : FVec Ideal S8x1024 .f32 :=
  pad S8x1024 ![0, 0] ![6, 0] ![0, 0] (concatenate S2x1024 0 [⟨S1x1024, x⟩, ⟨S1x1024, y⟩] concatenates_S1x1024_S1x1024_S2x1024_d0)
    (sitofp .f32 (constantI S_ 32 0#32)) pads_S2x1024_S8x1024_060_000 h_S_

variable (n j : Fin 4096) (k : Fin 1024)

theorem normed_at : normed D (ix2 n k) = D.normed n k := by
  have h : ∀ x : FVec Ideal S1x1024 .f32, rows x (ix2 n k) = x (ix2 0 k) := fun x => by pointwise [rows]
  show HostNorm.normed D.z (ix2 n k) * rows D.g (ix2 n k) + rows D.b (ix2 n k) = _
  rw [HostNorm.normed_at, h, h]; rfl

theorem hidden_at : hidden D (ix2 n j) = D.hidden n j := by
  have h : hidden D (ix2 n j) = ∑ k : Fin 1024, normed D (ix2 n k) * D.w1 (ix2 k j) := by pointwise [hidden]
  rw [h]; simp only [normed_at]; rfl

theorem dHidden_at : dHidden D (ix2 n j) = D.dHidden n j := by
  have h : dHidden D (ix2 n j) = if 0 < hidden D (ix2 n j) then
      (∑ k : Fin 1024, D.ct (ix2 n k) * D.w2 (ix2 j k)) * (Ideal.ofBits .f32 0x40000000#32 * max (hidden D (ix2 n j)) 0) else 0 := by
    pointwise [dHidden, all]
  rw [h, hidden_at]
  unfold Data.dHidden
  split
  · rfl
  · rename_i hn
    rw [max_eq_right (not_lt.mp hn), mul_zero, mul_zero]

theorem dNormed_at : dNormed D (ix2 n k) = D.dNormed n k := by
  have h : dNormed D (ix2 n k) = Ideal.ofBits .f32 0x3F9837F0#32 * D.ct (ix2 n k) + ∑ j : Fin 4096, dHidden D (ix2 n j) * D.w1 (ix2 k j) := by
    pointwise [dNormed]
  rw [h]; simp only [dHidden_at]; rfl

theorem dRow_line : HostNorm.line (dRow D) n = D.dRow n := by
  funext k
  have h : dRow D (ix2 n k) = dNormed D (ix2 n k) * D.g (ix2 0 k) := by pointwise [dRow, rows]
  show dRow D (ix2 n k) = _
  rw [h, dNormed_at]; rfl

/-- The chain rule's cotangent of `z`. -/
theorem dz_at (hD : D.Finite) : HostNorm.chains (dRow D) D.z (ix2 n k) = D.dz n k := by
  rw [HostNorm.chains_at, dRow_line, hD.dz_eq]; rfl

/-- The scale's and shift's cotangents. -/
theorem dScale_eq : stack (down (mulf (HostNorm.normed D.z) (dNormed D))) (down (dNormed D)) = D.dScale := by
  have hp : ∀ i, (sitofp .f32 (constantI S_ 32 0#32) : FVec Ideal S_ .f32) i = 0 := fun i => by
    show ((((0#32 : BitVec 32).toInt : ℤ) : ℝ) : EReal) = 0
    simp
  have hd : ∀ (x : FVec Ideal S4096x1024 .f32) (k : Fin 1024), down x (ix2 0 k) = ∑ n : Fin 4096, x (ix2 n k) := fun x k => by
    pointwise [down]
  have hs : ∀ (x y : FVec Ideal S1x1024 .f32) (r : Fin 8) (k : Fin 1024), stack x y (ix2 r k)
      = if r.val = 0 then x (ix2 0 k) else if r.val = 1 then y (ix2 0 k) else 0 := fun x y r k => by
    pointwise [stack]
    by_cases h0 : r.val = 0
    · rw [dif_pos (by omega), dif_pos (by omega), if_pos h0]
      exact congrArg (fun q => x (ix2 q k)) (Fin.ext h0)
    · rw [if_neg h0]
      by_cases h1 : r.val = 1
      · rw [dif_pos (by omega), dif_neg (by omega), if_pos h1]
        exact congrArg (fun q => y (ix2 q k)) (Fin.ext (by show r.val - 1 = 0; omega))
      · rw [dif_neg (by omega), if_neg h1]
        exact hp fun a => a.elim0
  funext i
  obtain ⟨r, k, rfl⟩ := exists_ix2 (n := 8) (k := 1024) i
  rw [hs, hd, hd]
  have h1 : ∀ n, mulf (HostNorm.normed D.z) (dNormed D) (ix2 n k) = D.dNormed n k * xhat (D.line n) k := fun n => by
    show HostNorm.normed D.z (ix2 n k) * dNormed D (ix2 n k) = _
    rw [HostNorm.normed_at, dNormed_at, mul_comm]; rfl
  simp only [h1, dNormed_at, Data.dScale, ix2_0, ix2_1]
  rfl

/-- What the reference's arguments are to the specification. -/
def data (m : (ℓ : Loc nD τ sig) → Buf (Elt Ideal) ℓ) (c : Dev nD) : Data where
  ct := m ((c : Thread nD τ).loc main_arg0)
  z := m ((c : Thread nD τ).loc main_arg1)
  g := m ((c : Thread nD τ).loc main_arg2)
  b := m ((c : Thread nD τ).loc main_arg3)
  w1 := m ((c : Thread nD τ).loc main_arg4)
  w2 := m ((c : Thread nD τ).loc main_arg5)

variable (m : (ℓ : Loc nD τ sig) → Buf (Elt Ideal) ℓ) (c : Dev nD)

/-- The four results of the run. -/
theorem res0 : res_main_v75 m c = fun i => (data m c).dHidden (i 0) (i 1) := by
  have h : res_main_v75 m c = truncf .bf16 (dHidden (data m c)) bitsLt_bf16_f32 := by
    simp only [res_main_v75, fn_main_v77, HostNorm.chains, HostNorm.dSquares, HostNorm.dVars, HostNorm.normed, HostNorm.rstds, HostNorm.vars, HostNorm.centred, HostNorm.means, HostNorm.overWidth, HostNorm.wideSum, HostNorm.wide, HostNorm.sums,
      dRow, dNormed, dHidden, hidden, normed, rows, all, down, stack, data]
  rw [h]; funext i
  obtain ⟨r, k, rfl⟩ := exists_ix2 (n := 4096) (k := 4096) i
  exact dHidden_at _ r k

theorem res1 (hD : (data m c).Finite) : res_main_v74 m c = fun i => (data m c).dz (i 0) (i 1) := by
  have h : res_main_v74 m c = HostNorm.chains (dRow (data m c)) (data m c).z := by
    simp only [res_main_v74, fn_main_v77, HostNorm.chains, HostNorm.dSquares, HostNorm.dVars, HostNorm.normed, HostNorm.rstds, HostNorm.vars, HostNorm.centred, HostNorm.means, HostNorm.overWidth, HostNorm.wideSum, HostNorm.wide, HostNorm.sums,
      dRow, dNormed, dHidden, hidden, normed, rows, all, down, stack, data]
  rw [h]; funext i
  obtain ⟨r, k, rfl⟩ := exists_ix2 (n := 4096) (k := 1024) i
  exact dz_at _ r k hD

theorem res2 (hD : (data m c).Finite) : res_main_v76 m c = fun i => (data m c).dz (i 0) (i 1) :=
  Eq.trans (by unfold res_main_v76 res_main_v74; rfl) (res1 m c hD)

theorem res3 : res_main_v78 m c = (data m c).dScale := by
  have h : res_main_v78 m c = stack (down (mulf (HostNorm.normed (data m c).z) (dNormed (data m c)))) (down (dNormed (data m c))) := by
    simp only [res_main_v78, fn_main_v77, HostNorm.chains, HostNorm.dSquares, HostNorm.dVars, HostNorm.normed, HostNorm.rstds, HostNorm.vars, HostNorm.centred, HostNorm.means, HostNorm.overWidth, HostNorm.wideSum, HostNorm.wide, HostNorm.sums,
      dRow, dNormed, dHidden, hidden, normed, rows, all, down, stack, data]
  rw [h, dScale_eq]

end Cert.Mlp.Reference
end
-- ==== Proof.Mlp.Claim.lean ====
/- On finite arguments the two programs of the MLP's gradient end with the same four arrays. -/
module

public import proofs.«01_k».proof.Defs
public import proofs.«01_k».proof.Proof.Common.Finite
public import proofs.«01_k».proof.Proof.Mlp.Kernel
public import proofs.«01_k».proof.Proof.Mlp.Reference

@[expose] public section

set_option maxRecDepth 16384

noncomputable section

open Idealize.ShloMosaic Idealize.ShloMosaic.TcCoe Idealize.SL.Sem

/-- The shape relations of the finiteness test hold. -/
theorem Cert.Pre_finite2.Gen.facts : Cert.Pre_finite2.Facts :=
  ⟨by decide, by decide, by decide, by decide, by decide, by decide, by decide⟩

namespace Cert.Mlp.Kernel
open Cert.Kernel2Ideal Cert.Kernel2Ideal.Gen

/-- The kernel's program ends with the gradient in its results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v30_0) = (fun j : (⟨2, ![4096, 4096]⟩ : Shape).Idx => (data m c).dHidden (j 0) (j 1))
      ∧ r.2.mem ((c : Thread nD τ).loc main_v30_1) = (fun j : (⟨2, ![4096, 1024]⟩ : Shape).Idx => (data m c).dz (j 0) (j 1))
      ∧ r.2.mem ((c : Thread nD τ).loc main_v30_2) = (fun j : (⟨2, ![4096, 1024]⟩ : Shape).Idx => (data m c).dz (j 0) (j 1))
      ∧ r.2.mem ((c : Thread nD τ).loc main_v30_3) = (data m c).dScale
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 8).trans (final8 m c), ((h.1 c).1 9).trans (final9 m c),
    ((h.1 c).1 10).trans (final10 m c), ((h.1 c).1 11).trans (final11 m c), h.2 c⟩) (θ_run_and (run_main m ρ) (unchanged m ρ))

attribute [local instance] Cert.Pre_finite2.Gen.facts in
/-- The test of the arguments says that they hold real numbers. -/
theorem finite (m : (ℓ : Loc nD τ sig) → Buf (Elt Ideal) ℓ) (h : Cert.Pre_Kernel2Ideal_finite2 m) (c : Dev nD) : (data m c).Finite := by
  have h := congrFun (h c) fun a => a.elim0
  unfold Cert.Pre_finite2.fn Cert.Pre_finite2.fn_part1 at h
  obtain ⟨h, h5⟩ := Norm.both_of_andi _ _ h
  obtain ⟨h, h4⟩ := Norm.both_of_andi _ _ h
  obtain ⟨h, h3⟩ := Norm.both_of_andi _ _ h
  obtain ⟨h, h2⟩ := Norm.both_of_andi _ _ h
  obtain ⟨h0, h1⟩ := Norm.both_of_andi _ _ h
  exact ⟨Norm.isReal_of_all _ _ _ _ _ h0, Norm.isReal_of_all _ _ _ _ _ h1, Norm.isReal_of_all _ _ _ _ _ h2,
    Norm.isReal_of_all _ _ _ _ _ h3, Norm.isReal_of_all _ _ _ _ _ h4, Norm.isReal_of_all _ _ _ _ _ h5⟩

end Cert.Mlp.Kernel

namespace Cert.Mlp.Reference
open Cert.Reference2Ideal Cert.Reference2Ideal.Gen

/-- So does the reference's when the arguments hold real numbers. -/
theorem run (m : (ℓ : Loc nD τ sig) → Buf (Elt Ideal) ℓ) (ρ : Dev nD → PrngReg) (hD : ∀ c, (data m c).Finite) :
    θ_run defs (onTc (τ := τ) (main (F := Ideal))) ⟨m, fun _ => 0, ρ⟩ fun r => ∀ c : Dev nD,
      r.2.mem ((c : Thread nD τ).loc main_v75) = (fun j : (⟨2, ![4096, 4096]⟩ : Shape).Idx => (data m c).dHidden (j 0) (j 1))
      ∧ r.2.mem ((c : Thread nD τ).loc main_v74) = (fun j : (⟨2, ![4096, 1024]⟩ : Shape).Idx => (data m c).dz (j 0) (j 1))
      ∧ r.2.mem ((c : Thread nD τ).loc main_v76) = (fun j : (⟨2, ![4096, 1024]⟩ : Shape).Idx => (data m c).dz (j 0) (j 1))
      ∧ r.2.mem ((c : Thread nD τ).loc main_v78) = (data m c).dScale
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (res0 m c), (h c).2.1.trans (res1 m c (hD c)),
    (h c).2.2.1.trans (res2 m c (hD c)), (h c).2.2.2.1.trans (res3 m c), (h c).2.2.2.2⟩) (Value.run m ρ)

end Cert.Mlp.Reference

namespace Cert.Mlp

/-- The reference ends, leaves its arguments alone and, having no semaphore, its counters at zero. -/
theorem reference_frame : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run m ρ)

attribute [local instance] Cert.Pre_finite2.Gen.facts in
/-- From equal finite arguments the two programs end with equal results. -/
theorem algebraic : Cert.algebraic_Kernel2Ideal_Reference2Ideal_pre_finite2 := by
  intro m g m' g' hpre hagree
  have e : ∀ c, Reference.data m' c = Kernel.data m c := fun c => by
    obtain ⟨h0, h1, h2, h3, h4, h5⟩ := hagree c
    unfold Reference.data Kernel.data
    rw [← h0, ← h1, ← h2, ← h3, ← h4, ← h5]
  refine ⟨_, _, _, _, Kernel.run m g, (θ_run _ _ _).mono (fun r h c => ?_)
    (Reference.run m' g' fun c => e c ▸ Kernel.finite m hpre c)⟩
  rw [← e c]
  exact h c

end Cert.Mlp
end
-- ==== Proof.Wgrad.Ff1.lean ====
/- The gradient of the first MLP weight: the normed input against the hidden units' cotangent, its columns in eight shards. -/
module

public import proofs.«01_k».proof.Defs
public import Idealize.ShloMosaic.Lib.Pipeline.ReadBack
public import proofs.«01_k».proof.Proof.Common.Rows
public import proofs.«01_k».proof.Proof.Wgrad.Total
public import proofs.«01_k».proof.Proof.Gen.Kernel3Ideal.Frame
public import proofs.«01_k».proof.Proof.Gen.Reference3Ideal.Run

@[expose] public section

set_option maxRecDepth 16384

noncomputable section

open Idealize.ShloMosaic Idealize.ShloMosaic.TcCoe Idealize.SL.Sem Cert.Rows
open Idealize.ShloMosaic.Pipeline (Dat)

namespace Cert.Wgrad
namespace Ff1

/-- Column `k` of shard `s`. -/
def column (s : Fin 8) (k : Fin 512) : Fin 4096 := ⟨s.val * 512 + k.val, by omega⟩

/-- The gradient as a function of the left factor and the cotangent. -/
def grad (u : (⟨2, ![4096, 1024]⟩ : Shape).Idx → EReal) (ct : (⟨2, ![4096, 4096]⟩ : Shape).Idx → EReal) :
    (⟨3, ![8, 1024, 512]⟩ : Shape).Idx → EReal := fun j => weight u ct (j 1) (column (j 0) (j 2))

section
open Cert.Kernel3Ideal Cert.Kernel3Ideal.Gen
variable (m : (ℓ : Loc nD τ sig) → Buf (Elt Ideal) ℓ)

/-- Token `l` of the token tile at point `t`. -/
def tok (t : Fin cfg0.N) (l : Fin 2048) : Fin 4096 := ⟨t.val % 2 * 2048 + l.val, by omega⟩

/-- Row `r` of the output tile at point `t`. -/
def row (t : Fin cfg0.N) (r : Fin 512) : Fin 1024 := ⟨t.val / 4 * 512 + r.val, by
  have : t.val < 8 := lt_of_lt_of_eq t.isLt (by decide +kernel); omega⟩

/-- Column `k` of the output tile at point `t`. -/
def col (t : Fin cfg0.N) (k : Fin 2048) : Fin 4096 := ⟨t.val / 2 % 2 * 2048 + k.val, by omega⟩

/-- Every window's block at every grid point. -/
theorem idx : ∀ t : Fin cfg0.N, win0_0.index t = ![t.val % 2, t.val / 4] ∧ win0_1.index t = ![t.val % 2, t.val / 2 % 2]
    ∧ win0_2.index t = ![t.val / 2 % 2, t.val / 4, 0] ∧ t.val < 8 :=
  (by decide +kernel : ∀ t : Fin grid0.N, _)

/-- What the first window holds at a point. -/
theorem read0 (c : Dev nD) (t : Fin cfg0.N) (l : Fin 2048) (r : Fin 512) :
    iblk m c 0 t (ix2 l r) = m ((c : Thread nD τ).loc main_arg0) (ix2 (tok t l) (row t r)) := by
  blk_ext! [iblk, V, idx t, tok, row]

/-- What the second window holds at a point. -/
theorem read1 (c : Dev nD) (t : Fin cfg0.N) (l : Fin 2048) (k : Fin 2048) :
    iblk m c 1 t (ix2 l k) = m ((c : Thread nD τ).loc main_arg1) (ix2 (tok t l) (col t k)) := by
  blk_ext! [iblk, V, idx t, tok, col]

/-- One product of the sum an entry of the output tile is. -/
def term (c : Dev nD) (t : Fin cfg0.N) (y : S512x2048.Idx) (n : Fin 4096) : EReal :=
  prod (m ((c : Thread nD τ).loc main_arg0)) (m ((c : Thread nD τ).loc main_arg1)) (row t (y 0)) (col t (y 1)) n

/-- One point adds its token tile's products to what the accumulator held. -/
theorem step (c : Dev nD) (t : Fin cfg0.N) (x : Vec Ideal S512x2048 .f32) (y : S512x2048.Idx) :
    k0_pay2 (F := Ideal) (iblk m c 0 t) x (iblk m c 1 t) y = x y + ∑ l, term m c t y (tok t l) := by
  obtain ⟨r, k, rfl⟩ := exists_ix2 (n := 512) (k := 2048) y
  pointwise [k0_pay2, term, prod]
  simp only [read0, read1]

/-- At the first token tile the accumulator starts from zero. -/
theorem first (c : Dev nD) (t : Fin cfg0.N) (h : t.val % 2 = 0) (y : S512x2048.Idx) :
    (outsAt0 m c t.val t.isLt).2 y = 0 + ∑ l, term m c t y (tok t l) := by
  rw [outsAt0_A m c t h (by omega)]
  dsimp only
  frame_out
  refine (step m c t _ y).trans (congrArg (· + _) ?_)
  pointwise [k0_pay1]

/-- At a later one it goes on from the point before. -/
theorem next (c : Dev nD) (t : Fin cfg0.N) (h : ¬t.val % 2 = 0) (y : S512x2048.Idx) :
    (outsAt0 m c t.val t.isLt).2 y
      = (outsAt0 m c (t.val - 1) (Nat.lt_of_le_of_lt (Nat.sub_le _ _) t.isLt)).2 y + ∑ l, term m c t y (tok t l) := by
  rw [outsAt0_B m c t h (by omega)]
  dsimp only
  frame_out
  exact (congrArg (fun x => k0_pay2 (F := Ideal) (iblk m c 0 t) x (iblk m c 1 t) y)
    ((Memref.isWhole_whole cc0_scratch0).read_unread _)).trans (step m c t _ y)

/-- Shard `s` of the output tile's four, as columns of the tile. -/
def lane (s : Fin 4) (k : Fin 512) : Fin 2048 := ⟨s.val * 512 + k.val, by omega⟩

/-- At the last token tile the output tile is the accumulator, cut into its four shards. -/
theorem last (c : Dev nD) (t : Fin cfg0.N) (h : t.val % 2 = 1) (s : Fin 4) (r k : Fin 512) :
    (outsAt0 m c t.val t.isLt).1 (ix3 s r k) = (outsAt0 m c t.val t.isLt).2 (ix2 r (lane s k)) := by
  rw [outsAt0_B m c t (by omega) h]
  dsimp only
  frame_out
  canon_tiles x h
  all_goals
    obtain ⟨o, a, b, rfl⟩ := exists_ix3 (m := 1) (n := 512) (k := 512) x
    obtain rfl : r = a := Fin.ext h1
    obtain rfl : k = b := Fin.ext h2
    rw [View.readCov_fill _ _ _ _ _ (by decide)]
    pointwise [k0_pay3, k0_pay4, k0_pay5, k0_pay6]
    refine congrArg _ (congrArg (ix2 r) (Fin.ext ?_))
    have h0' : s.val = _ := h0
    have ho : o.val < 1 := o.isLt
    simp only [lane, ix3_0] at h0' ⊢
    omega

/-- The array the kernel writes. -/
theorem final (c : Dev nD) : (dats m 0 c).arrAt 2 (cfgs 0).N =
    grad (m ((c : Thread nD τ).loc main_arg0)) (m ((c : Thread nD τ).loc main_arg1)) := by
  refine (dats m 0 c).arrAt_eq_of_covers 2 _ (by decide +kernel) fun t hf y => ?_
  have h := (flush0_2 t).mp hf
  obtain ⟨s, r, k, rfl⟩ := exists_ix3 (m := 4) (n := 512) (k := 512) y
  have e : (win0_2.blk t).view.emb (ix3 s r k) = ix3 (⟨t.val / 2 % 2 * 4 + s.val, by omega⟩ : Fin 8) (row t r) k := by
    blk_ext [idx t, row]
  blk_simp
  rw [e, after0_2]
  refine (last m c t h s r k).trans ?_
  have hc : col t (lane s k) = column ⟨t.val / 2 % 2 * 4 + s.val, by omega⟩ k := Fin.ext (by simp only [col, lane, column]; omega)
  refine (total rfl (fun n hn => (outsAt0 m c n hn).2) (term m c) tok (fun _ _ => rfl) (fun t t' ht => ?_)
    (first m c) (next m c) t h (ix2 r (lane s k))).trans ?_
  · have h4 : t.val / 4 = t'.val / 4 := by omega
    funext y n
    simp only [term, row, col, ht, h4]
  · show weight _ _ (row t r) (col t (lane s k)) = _
    rw [hc]
    rfl

/-- The kernel's program ends with the gradient in its result and its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩) (θ_run_and (run_main m ρ) (unchanged m ρ))
end

section
open Cert.Reference3Ideal Cert.Reference3Ideal.Gen

/-- The reference's program ends with the same function of its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  funext j
  obtain ⟨s, i, k, rfl⟩ := exists_ix3 (m := 8) (n := 1024) (k := 512) j
  refine Eq.trans ?_ (weight_comm _ _ i (column s k)).symm
  pointwise [weight, prod, column]
end

/-- The reference ends, leaves its arguments alone and, having no semaphore, its counters at zero. -/
theorem reference_frame : Cert.quiescent_Reference3Ideal := fun m ρ _ =>
  (θ_run Cert.Reference3Ideal.defs _ _).mono (fun r h => ⟨fun c => (h c).2, sem_eq_zero_of_no_sems (by decide) r.2⟩)
    (reference_run m ρ)

/-- From equal arguments the two programs end with equal results. -/
theorem algebraic : Cert.algebraic_Kernel3Ideal_Reference3Ideal := by
  intro m g m' g' _ hagree
  refine ⟨_, kernel_run m g, (θ_run _ _ _).mono (fun r h c => ?_) (reference_run m' g')⟩
  obtain ⟨h0, h1, h2⟩ := hagree c
  rw [← h0, ← h1]
  exact h c

end Ff1
end Cert.Wgrad
end
-- ==== Proof.Wgrad.Ff2.lean ====
/- The gradient of the second MLP weight: squared rectified activations against the cotangent. -/
module

public import proofs.«01_k».proof.Defs
public import proofs.«01_k».proof.Proof.Common.Rows
public import proofs.«01_k».proof.Proof.Wgrad.Total
public import proofs.«01_k».proof.Proof.Gen.Kernel4Ideal.Frame
public import proofs.«01_k».proof.Proof.Gen.Reference4Ideal.Run

@[expose] public section

set_option maxRecDepth 16384

noncomputable section

open Idealize.ShloMosaic Idealize.ShloMosaic.TcCoe Idealize.SL.Sem Cert.Rows
open Idealize.ShloMosaic.Pipeline (Dat)

namespace Cert.Wgrad

/-- The squared rectified activation. -/
def square (u : (⟨2, ![4096, 4096]⟩ : Shape).Idx → EReal) : (⟨2, ![4096, 4096]⟩ : Shape).Idx → EReal :=
  fun j => max (u j) 0 * max (u j) 0

namespace Ff2

/-- The gradient as a function of the activations and the cotangent. -/
def grad (u : (⟨2, ![4096, 4096]⟩ : Shape).Idx → EReal) (ct : (⟨2, ![4096, 1024]⟩ : Shape).Idx → EReal) :
    (⟨2, ![4096, 1024]⟩ : Shape).Idx → EReal := fun j => weight (square u) ct (j 0) (j 1)

section
open Cert.Kernel4Ideal Cert.Kernel4Ideal.Gen
variable (m : (ℓ : Loc nD τ sig) → Buf (Elt Ideal) ℓ)

/-- Token `l` of the token tile at point `t`. -/
def tok (t : Fin cfg0.N) (l : Fin 2048) : Fin 4096 := ⟨t.val % 2 * 2048 + l.val, by omega⟩

/-- Row `r` of the output tile at point `t`. -/
def row (t : Fin cfg0.N) (r : Fin 512) : Fin 4096 := ⟨t.val / 2 * 512 + r.val, by
  have : t.val < 16 := lt_of_lt_of_eq t.isLt (by decide +kernel); omega⟩

/-- Every window's block at every grid point. -/
theorem idx : ∀ t : Fin cfg0.N, win0_0.index t = ![t.val % 2, t.val / 2] ∧ win0_1.index t = ![t.val % 2, 0]
    ∧ win0_2.index t = ![t.val / 2, 0] ∧ t.val < 16 :=
  (by decide +kernel : ∀ t : Fin grid0.N, _)

/-- What the first window holds at a point. -/
theorem read0 (c : Dev nD) (t : Fin cfg0.N) (l : Fin 2048) (r : Fin 512) :
    iblk m c 0 t (ix2 l r) = m ((c : Thread nD τ).loc main_arg0) (ix2 (tok t l) (row t r)) := by
  blk_ext! [iblk, V, idx t, tok, row]

/-- What the second window holds at a point. -/
theorem read1 (c : Dev nD) (t : Fin cfg0.N) (l : Fin 2048) (k : Fin 1024) :
    iblk m c 1 t (ix2 l k) = m ((c : Thread nD τ).loc main_arg1) (ix2 (tok t l) k) := by
  blk_ext! [iblk, V, idx t, tok]

/-- One product of the sum an entry of the output tile is. -/
def term (c : Dev nD) (t : Fin cfg0.N) (y : S512x1024.Idx) (n : Fin 4096) : EReal :=
  prod (square (m ((c : Thread nD τ).loc main_arg0))) (m ((c : Thread nD τ).loc main_arg1)) (row t (y 0)) (y 1) n

/-- One point adds its token tile's products to what the accumulator held. -/
theorem step (c : Dev nD) (t : Fin cfg0.N) (x : Vec Ideal S512x1024 .f32) (y : S512x1024.Idx) :
    k0_pay2 (F := Ideal) (iblk m c 0 t) x (iblk m c 1 t) y = x y + ∑ l, term m c t y (tok t l) := by
  obtain ⟨r, k, rfl⟩ := exists_ix2 (n := 512) (k := 1024) y
  pointwise [k0_pay2, term, prod, square]
  simp only [read0, read1]

/-- At the first token tile the accumulator starts from zero. -/
theorem first (c : Dev nD) (t : Fin cfg0.N) (h : t.val % 2 = 0) (y : S512x1024.Idx) :
    (outsAt0 m c t.val t.isLt).2 y = 0 + ∑ l, term m c t y (tok t l) := by
  rw [outsAt0_A m c t h (by omega)]
  dsimp only
  frame_out
  refine (step m c t _ y).trans (congrArg (· + _) ?_)
  pointwise [k0_pay1]

/-- At a later one it goes on from the point before. -/
theorem next (c : Dev nD) (t : Fin cfg0.N) (h : ¬t.val % 2 = 0) (y : S512x1024.Idx) :
    (outsAt0 m c t.val t.isLt).2 y
      = (outsAt0 m c (t.val - 1) (Nat.lt_of_le_of_lt (Nat.sub_le _ _) t.isLt)).2 y + ∑ l, term m c t y (tok t l) := by
  rw [outsAt0_B m c t h (by omega)]
  dsimp only
  frame_out
  exact (congrArg (fun x => k0_pay2 (F := Ideal) (iblk m c 0 t) x (iblk m c 1 t) y)
    ((Memref.isWhole_whole cc0_scratch0).read_unread _)).trans (step m c t _ y)

/-- At the last token tile the output tile is the accumulator. -/
theorem last (c : Dev nD) (t : Fin cfg0.N) (h : t.val % 2 = 1) (y : S512x1024.Idx) :
    (outsAt0 m c t.val t.isLt).1 y = (outsAt0 m c t.val t.isLt).2 y := by
  rw [outsAt0_B m c t (by omega) h]
  dsimp only
  frame_out
  rfl

/-- The array the kernel writes. -/
theorem final (c : Dev nD) : (dats m 0 c).arrAt 2 (cfgs 0).N =
    grad (m ((c : Thread nD τ).loc main_arg0)) (m ((c : Thread nD τ).loc main_arg1)) := by
  refine (dats m 0 c).arrAt_eq_of_covers 2 _ (by decide +kernel) fun t hf y => ?_
  have h := (flush0_2 t).mp hf
  obtain ⟨r, k, rfl⟩ := exists_ix2 (n := 512) (k := 1024) y
  have e : (win0_2.blk t).view.emb (ix2 r k) = ix2 (row t r) k := by blk_ext [idx t, row]
  blk_simp
  rw [e, after0_2]
  refine (last m c t h _).trans ?_
  exact total rfl (fun n hn => (outsAt0 m c n hn).2) (term m c) tok (fun _ _ => rfl)
    (fun t t' ht => by funext y n; simp only [term, row, ht]) (first m c) (next m c) t h (ix2 r k)

/-- The kernel's program ends with the gradient in its result and its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩) (θ_run_and (run_main m ρ) (unchanged m ρ))
end

section
open Cert.Reference4Ideal Cert.Reference4Ideal.Gen

/-- The reference's program ends with the same function of its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  funext j
  obtain ⟨i, k, rfl⟩ := exists_ix2 (n := 4096) (k := 1024) j
  refine Eq.trans ?_ (weight_comm _ _ i k).symm
  pointwise [weight, prod, square]
end

/-- The reference ends, leaves its arguments alone and, having no semaphore, its counters at zero. -/
theorem reference_frame : Cert.quiescent_Reference4Ideal := fun m ρ _ =>
  (θ_run Cert.Reference4Ideal.defs _ _).mono (fun r h => ⟨fun c => (h c).2, sem_eq_zero_of_no_sems (by decide) r.2⟩)
    (reference_run m ρ)

/-- From equal arguments the two programs end with equal results. -/
theorem algebraic : Cert.algebraic_Kernel4Ideal_Reference4Ideal := by
  intro m g m' g' _ hagree
  refine ⟨_, kernel_run m g, (θ_run _ _ _).mono (fun r h c => ?_) (reference_run m' g')⟩
  obtain ⟨h0, h1, h2⟩ := hagree c
  rw [← h0, ← h1]
  exact h c

end Ff2
end Cert.Wgrad
end
-- ==== Proof.Wgrad.InProj.lean ====
/- The gradient of the transposed input projection: the projection's cotangent against the block's input. -/
module

public import proofs.«01_k».proof.Defs
public import proofs.«01_k».proof.Proof.Common.Rows
public import proofs.«01_k».proof.Proof.Wgrad.Total
public import proofs.«01_k».proof.Proof.Gen.Kernel5Ideal.Frame
public import proofs.«01_k».proof.Proof.Gen.Reference5Ideal.Run

@[expose] public section

set_option maxRecDepth 16384

noncomputable section

open Idealize.ShloMosaic Idealize.ShloMosaic.TcCoe Idealize.SL.Sem Cert.Rows
open Idealize.ShloMosaic.Pipeline (Dat)

namespace Cert.Wgrad
namespace InProj

/-- The gradient as a function of the left factor and the cotangent. -/
def grad (u : (⟨2, ![4096, 4352]⟩ : Shape).Idx → EReal) (ct : (⟨2, ![4096, 1024]⟩ : Shape).Idx → EReal) :
    (⟨2, ![4352, 1024]⟩ : Shape).Idx → EReal := fun j => weight u ct (j 0) (j 1)

section
open Cert.Kernel5Ideal Cert.Kernel5Ideal.Gen
variable (m : (ℓ : Loc nD τ sig) → Buf (Elt Ideal) ℓ)

/-- Token `l` of the token tile at point `t`. -/
def tok (t : Fin cfg0.N) (l : Fin 1024) : Fin 4096 := ⟨t.val % 4 * 1024 + l.val, by omega⟩

/-- Row `r` of the output tile at point `t`. -/
def row (t : Fin cfg0.N) (r : Fin 2176) : Fin 4352 := ⟨t.val / 4 * 2176 + r.val, by
  have : t.val < 8 := lt_of_lt_of_eq t.isLt (by decide +kernel); omega⟩

/-- Every window's block at every grid point. -/
theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

/-- What the first window holds at a point. -/
theorem read0 (c : Dev nD) (t : Fin cfg0.N) (l : Fin 1024) (r : Fin 2176) :
    iblk m c 0 t (ix2 l r) = m ((c : Thread nD τ).loc main_arg0) (ix2 (tok t l) (row t r)) := by
  blk_ext! [iblk, V, idx t, tok, row]

/-- What the second window holds at a point. -/
theorem read1 (c : Dev nD) (t : Fin cfg0.N) (l : Fin 1024) (k : Fin 1024) :
    iblk m c 1 t (ix2 l k) = m ((c : Thread nD τ).loc main_arg1) (ix2 (tok t l) k) := by
  blk_ext! [iblk, V, idx t, tok]

/-- One product of the sum an entry of the output tile is. -/
def term (c : Dev nD) (t : Fin cfg0.N) (y : S2176x1024.Idx) (n : Fin 4096) : EReal :=
  prod (m ((c : Thread nD τ).loc main_arg0)) (m ((c : Thread nD τ).loc main_arg1)) (row t (y 0)) (y 1) n

/-- One point adds its token tile's products to what the accumulator held. -/
theorem step (c : Dev nD) (t : Fin cfg0.N) (x : Vec Ideal S2176x1024 .f32) (y : S2176x1024.Idx) :
    k0_pay2 (F := Ideal) (iblk m c 0 t) x (iblk m c 1 t) y = x y + ∑ l, term m c t y (tok t l) := by
  obtain ⟨r, k, rfl⟩ := exists_ix2 (n := 2176) (k := 1024) y
  pointwise [k0_pay2, term, prod]
  simp only [read0, read1]

/-- At the first token tile the accumulator starts from zero. -/
theorem first (c : Dev nD) (t : Fin cfg0.N) (h : t.val % 4 = 0) (y : S2176x1024.Idx) :
    (outsAt0 m c t.val t.isLt).2 y = 0 + ∑ l, term m c t y (tok t l) := by
  rw [outsAt0_A m c t h (by omega)]
  dsimp only
  frame_out
  refine (step m c t _ y).trans (congrArg (· + _) ?_)
  pointwise [k0_pay1]

/-- At a later one it goes on from the point before. -/
theorem next (c : Dev nD) (t : Fin cfg0.N) (h : ¬t.val % 4 = 0) (y : S2176x1024.Idx) :
    (outsAt0 m c t.val t.isLt).2 y
      = (outsAt0 m c (t.val - 1) (Nat.lt_of_le_of_lt (Nat.sub_le _ _) t.isLt)).2 y + ∑ l, term m c t y (tok t l) := by
  by_cases h' : t.val % 4 = 3
  all_goals first | rw [outsAt0_C m c t h h'] | rw [outsAt0_B m c t h h']
  all_goals
    dsimp only; frame_out
    exact (congrArg (fun x => k0_pay2 (F := Ideal) (iblk m c 0 t) x (iblk m c 1 t) y)
      ((Memref.isWhole_whole cc0_scratch0).read_unread _)).trans (step m c t _ y)

/-- At the last token tile the output tile is the accumulator. -/
theorem last (c : Dev nD) (t : Fin cfg0.N) (h : t.val % 4 = 3) (y : S2176x1024.Idx) :
    (outsAt0 m c t.val t.isLt).1 y = (outsAt0 m c t.val t.isLt).2 y := by
  rw [outsAt0_C m c t (by omega) h]
  dsimp only
  frame_out
  rfl

/-- The array the kernel writes. -/
theorem final (c : Dev nD) : (dats m 0 c).arrAt 2 (cfgs 0).N =
    grad (m ((c : Thread nD τ).loc main_arg0)) (m ((c : Thread nD τ).loc main_arg1)) := by
  refine (dats m 0 c).arrAt_eq_of_covers 2 _ (by decide +kernel) fun t hf y => ?_
  have h := (flush0_2 t).mp hf
  obtain ⟨r, k, rfl⟩ := exists_ix2 (n := 2176) (k := 1024) y
  have e : (win0_2.blk t).view.emb (ix2 r k) = ix2 (row t r) k := by blk_ext [idx t, row]
  blk_simp
  rw [e, after0_2]
  refine (last m c t h _).trans ?_
  exact total rfl (fun n hn => (outsAt0 m c n hn).2) (term m c) tok (fun _ _ => rfl)
    (fun t t' ht => by funext y n; simp only [term, row, ht]) (first m c) (next m c) t h (ix2 r k)

/-- The kernel's program ends with the gradient in its result and its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩) (θ_run_and (run_main m ρ) (unchanged m ρ))
end

section
open Cert.Reference5Ideal Cert.Reference5Ideal.Gen

/-- The reference's program ends with the same function of its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  funext j
  obtain ⟨i, k, rfl⟩ := exists_ix2 (n := 4352) (k := 1024) j
  show _ = weight _ _ i k
  pointwise [weight, prod]
end

/-- The reference ends, leaves its arguments alone and, having no semaphore, its counters at zero. -/
theorem reference_frame : Cert.quiescent_Reference5Ideal := fun m ρ _ =>
  (θ_run Cert.Reference5Ideal.defs _ _).mono (fun r h => ⟨fun c => (h c).2, sem_eq_zero_of_no_sems (by decide) r.2⟩)
    (reference_run m ρ)

/-- From equal arguments the two programs end with equal results. -/
theorem algebraic : Cert.algebraic_Kernel5Ideal_Reference5Ideal := by
  intro m g m' g' _ hagree
  refine ⟨_, kernel_run m g, (θ_run _ _ _).mono (fun r h c => ?_) (reference_run m' g')⟩
  obtain ⟨h0, h1, h2⟩ := hagree c
  rw [← h0, ← h1]
  exact h c

end InProj
end Cert.Wgrad
end
-- ==== Proof.Wgrad.Out.lean ====
/- The gradient of the merge's output weight: the gated sum against its cotangent. -/
module

public import proofs.«01_k».proof.Defs
public import proofs.«01_k».proof.Proof.Common.Rows
public import proofs.«01_k».proof.Proof.Wgrad.Total
public import proofs.«01_k».proof.Proof.Gen.Kernel6Ideal.Frame
public import proofs.«01_k».proof.Proof.Gen.Reference6Ideal.Run

@[expose] public section

set_option maxRecDepth 16384

noncomputable section

open Idealize.ShloMosaic Idealize.ShloMosaic.TcCoe Idealize.SL.Sem Cert.Rows
open Idealize.ShloMosaic.Pipeline (Dat)

namespace Cert.Wgrad
namespace Out

/-- The gradient as a function of the left factor and the cotangent. -/
def grad (u : (⟨2, ![4096, 1024]⟩ : Shape).Idx → EReal) (ct : (⟨2, ![4096, 1024]⟩ : Shape).Idx → EReal) :
    (⟨2, ![1024, 1024]⟩ : Shape).Idx → EReal := fun j => weight u ct (j 0) (j 1)

section
open Cert.Kernel6Ideal Cert.Kernel6Ideal.Gen
variable (m : (ℓ : Loc nD τ sig) → Buf (Elt Ideal) ℓ)

/-- Token `l` of the token tile at point `t`. -/
def tok (t : Fin cfg0.N) (l : Fin 2048) : Fin 4096 := ⟨t.val % 2 * 2048 + l.val, by omega⟩

/-- Row `r` of the output tile at point `t`. -/
def row (t : Fin cfg0.N) (r : Fin 512) : Fin 1024 := ⟨t.val / 2 * 512 + r.val, by
  have : t.val < 4 := lt_of_lt_of_eq t.isLt (by decide +kernel); omega⟩

/-- Every window's block at every grid point. -/
theorem idx : ∀ t : Fin cfg0.N, win0_0.index t = ![t.val % 2, t.val / 2] ∧ win0_1.index t = ![t.val % 2, 0]
    ∧ win0_2.index t = ![t.val / 2, 0] ∧ t.val < 4 :=
  (by decide +kernel : ∀ t : Fin grid0.N, _)

/-- What the first window holds at a point. -/
theorem read0 (c : Dev nD) (t : Fin cfg0.N) (l : Fin 2048) (r : Fin 512) :
    iblk m c 0 t (ix2 l r) = m ((c : Thread nD τ).loc main_arg0) (ix2 (tok t l) (row t r)) := by
  blk_ext! [iblk, V, idx t, tok, row]

/-- What the second window holds at a point. -/
theorem read1 (c : Dev nD) (t : Fin cfg0.N) (l : Fin 2048) (k : Fin 1024) :
    iblk m c 1 t (ix2 l k) = m ((c : Thread nD τ).loc main_arg1) (ix2 (tok t l) k) := by
  blk_ext! [iblk, V, idx t, tok]

/-- One product of the sum an entry of the output tile is. -/
def term (c : Dev nD) (t : Fin cfg0.N) (y : S512x1024.Idx) (n : Fin 4096) : EReal :=
  prod (m ((c : Thread nD τ).loc main_arg0)) (m ((c : Thread nD τ).loc main_arg1)) (row t (y 0)) (y 1) n

/-- One point adds its token tile's products to what the accumulator held. -/
theorem step (c : Dev nD) (t : Fin cfg0.N) (x : Vec Ideal S512x1024 .f32) (y : S512x1024.Idx) :
    k0_pay2 (F := Ideal) (iblk m c 0 t) x (iblk m c 1 t) y = x y + ∑ l, term m c t y (tok t l) := by
  obtain ⟨r, k, rfl⟩ := exists_ix2 (n := 512) (k := 1024) y
  pointwise [k0_pay2, term, prod]
  simp only [read0, read1]

/-- At the first token tile the accumulator starts from zero. -/
theorem first (c : Dev nD) (t : Fin cfg0.N) (h : t.val % 2 = 0) (y : S512x1024.Idx) :
    (outsAt0 m c t.val t.isLt).2 y = 0 + ∑ l, term m c t y (tok t l) := by
  rw [outsAt0_A m c t h (by omega)]
  dsimp only
  frame_out
  refine (step m c t _ y).trans (congrArg (· + _) ?_)
  pointwise [k0_pay1]

/-- At a later one it goes on from the point before. -/
theorem next (c : Dev nD) (t : Fin cfg0.N) (h : ¬t.val % 2 = 0) (y : S512x1024.Idx) :
    (outsAt0 m c t.val t.isLt).2 y
      = (outsAt0 m c (t.val - 1) (Nat.lt_of_le_of_lt (Nat.sub_le _ _) t.isLt)).2 y + ∑ l, term m c t y (tok t l) := by
  rw [outsAt0_B m c t h (by omega)]
  dsimp only
  frame_out
  exact (congrArg (fun x => k0_pay2 (F := Ideal) (iblk m c 0 t) x (iblk m c 1 t) y)
    ((Memref.isWhole_whole cc0_scratch0).read_unread _)).trans (step m c t _ y)

/-- At the last token tile the output tile is the accumulator. -/
theorem last (c : Dev nD) (t : Fin cfg0.N) (h : t.val % 2 = 1) (y : S512x1024.Idx) :
    (outsAt0 m c t.val t.isLt).1 y = (outsAt0 m c t.val t.isLt).2 y := by
  rw [outsAt0_B m c t (by omega) h]
  dsimp only
  frame_out
  rfl

/-- The array the kernel writes. -/
theorem final (c : Dev nD) : (dats m 0 c).arrAt 2 (cfgs 0).N =
    grad (m ((c : Thread nD τ).loc main_arg0)) (m ((c : Thread nD τ).loc main_arg1)) := by
  refine (dats m 0 c).arrAt_eq_of_covers 2 _ (by decide +kernel) fun t hf y => ?_
  have h := (flush0_2 t).mp hf
  obtain ⟨r, k, rfl⟩ := exists_ix2 (n := 512) (k := 1024) y
  have e : (win0_2.blk t).view.emb (ix2 r k) = ix2 (row t r) k := by blk_ext [idx t, row]
  blk_simp
  rw [e, after0_2]
  refine (last m c t h _).trans ?_
  exact total rfl (fun n hn => (outsAt0 m c n hn).2) (term m c) tok (fun _ _ => rfl)
    (fun t t' ht => by funext y n; simp only [term, row, ht]) (first m c) (next m c) t h (ix2 r k)

/-- The kernel's program ends with the gradient in its result and its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩) (θ_run_and (run_main m ρ) (unchanged m ρ))
end

section
open Cert.Reference6Ideal Cert.Reference6Ideal.Gen

/-- The reference's program ends with the same function of its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  funext j
  obtain ⟨i, k, rfl⟩ := exists_ix2 (n := 1024) (k := 1024) j
  refine Eq.trans ?_ (weight_comm _ _ i k).symm
  pointwise [weight, prod]
end

/-- The reference ends, leaves its arguments alone and, having no semaphore, its counters at zero. -/
theorem reference_frame : Cert.quiescent_Reference6Ideal := fun m ρ _ =>
  (θ_run Cert.Reference6Ideal.defs _ _).mono (fun r h => ⟨fun c => (h c).2, sem_eq_zero_of_no_sems (by decide) r.2⟩)
    (reference_run m ρ)

/-- From equal arguments the two programs end with equal results. -/
theorem algebraic : Cert.algebraic_Kernel6Ideal_Reference6Ideal := by
  intro m g m' g' _ hagree
  refine ⟨_, kernel_run m g, (θ_run _ _ _).mono (fun r h c => ?_) (reference_run m' g')⟩
  obtain ⟨h0, h1, h2⟩ := hagree c
  rw [← h0, ← h1]
  exact h c

end Out
end Cert.Wgrad
end
-- ==== Proof.Wgrad.Head.lean ====
/- The gradient of an attention branch's output weight: the attention's output against its cotangent. -/
module

public import proofs.«01_k».proof.Defs
public import proofs.«01_k».proof.Proof.Common.Rows
public import proofs.«01_k».proof.Proof.Wgrad.Total
public import proofs.«01_k».proof.Proof.Gen.Kernel7Ideal.Frame
public import proofs.«01_k».proof.Proof.Gen.Reference7Ideal.Run

@[expose] public section

set_option maxRecDepth 16384

noncomputable section

open Idealize.ShloMosaic Idealize.ShloMosaic.TcCoe Idealize.SL.Sem Cert.Rows
open Idealize.ShloMosaic.Pipeline (Dat)

namespace Cert.Wgrad
namespace Head

/-- The gradient as a function of the left factor and the cotangent. -/
def grad (u : (⟨2, ![4096, 512]⟩ : Shape).Idx → EReal) (ct : (⟨2, ![4096, 1024]⟩ : Shape).Idx → EReal) :
    (⟨2, ![512, 1024]⟩ : Shape).Idx → EReal := fun j => weight u ct (j 0) (j 1)

section
open Cert.Kernel7Ideal Cert.Kernel7Ideal.Gen
variable (m : (ℓ : Loc nD τ sig) → Buf (Elt Ideal) ℓ)

/-- Token `l` of the token tile at point `t`. -/
def tok (t : Fin cfg0.N) (l : Fin 2048) : Fin 4096 := ⟨t.val % 2 * 2048 + l.val, by omega⟩

/-- Every window's block at every grid point. -/
theorem idx : ∀ t : Fin cfg0.N, win0_0.index t = ![t.val % 2, 0] ∧ win0_1.index t = ![t.val % 2, 0]
    ∧ win0_2.index t = ![0, 0] ∧ t.val < 2 :=
  (by decide +kernel : ∀ t : Fin grid0.N, _)

/-- What the first window holds at a point. -/
theorem read0 (c : Dev nD) (t : Fin cfg0.N) (l : Fin 2048) (r : Fin 512) :
    iblk m c 0 t (ix2 l r) = m ((c : Thread nD τ).loc main_arg0) (ix2 (tok t l) r) := by
  blk_ext! [iblk, V, idx t, tok]

/-- What the second window holds at a point. -/
theorem read1 (c : Dev nD) (t : Fin cfg0.N) (l : Fin 2048) (k : Fin 1024) :
    iblk m c 1 t (ix2 l k) = m ((c : Thread nD τ).loc main_arg1) (ix2 (tok t l) k) := by
  blk_ext! [iblk, V, idx t, tok]

/-- One product of the sum an entry of the output tile is. -/
def term (c : Dev nD) (t : Fin cfg0.N) (y : S512x1024.Idx) (n : Fin 4096) : EReal :=
  prod (m ((c : Thread nD τ).loc main_arg0)) (m ((c : Thread nD τ).loc main_arg1)) (y 0) (y 1) n

/-- One point adds its token tile's products to what the accumulator held. -/
theorem step (c : Dev nD) (t : Fin cfg0.N) (x : Vec Ideal S512x1024 .f32) (y : S512x1024.Idx) :
    k0_pay2 (F := Ideal) (iblk m c 0 t) x (iblk m c 1 t) y = x y + ∑ l, term m c t y (tok t l) := by
  obtain ⟨r, k, rfl⟩ := exists_ix2 (n := 512) (k := 1024) y
  pointwise [k0_pay2, term, prod]
  simp only [read0, read1]

/-- At the first token tile the accumulator starts from zero. -/
theorem first (c : Dev nD) (t : Fin cfg0.N) (h : t.val % 2 = 0) (y : S512x1024.Idx) :
    (outsAt0 m c t.val t.isLt).2 y = 0 + ∑ l, term m c t y (tok t l) := by
  rw [outsAt0_A m c t h (by omega)]
  dsimp only
  frame_out
  refine (step m c t _ y).trans (congrArg (· + _) ?_)
  pointwise [k0_pay1]

/-- At a later one it goes on from the point before. -/
theorem next (c : Dev nD) (t : Fin cfg0.N) (h : ¬t.val % 2 = 0) (y : S512x1024.Idx) :
    (outsAt0 m c t.val t.isLt).2 y
      = (outsAt0 m c (t.val - 1) (Nat.lt_of_le_of_lt (Nat.sub_le _ _) t.isLt)).2 y + ∑ l, term m c t y (tok t l) := by
  rw [outsAt0_B m c t h (by omega)]
  dsimp only
  frame_out
  exact (congrArg (fun x => k0_pay2 (F := Ideal) (iblk m c 0 t) x (iblk m c 1 t) y)
    ((Memref.isWhole_whole cc0_scratch0).read_unread _)).trans (step m c t _ y)

/-- At the last token tile the output tile is the accumulator. -/
theorem last (c : Dev nD) (t : Fin cfg0.N) (h : t.val % 2 = 1) (y : S512x1024.Idx) :
    (outsAt0 m c t.val t.isLt).1 y = (outsAt0 m c t.val t.isLt).2 y := by
  rw [outsAt0_B m c t (by omega) h]
  dsimp only
  frame_out
  rfl

/-- The array the kernel writes. -/
theorem final (c : Dev nD) : (dats m 0 c).arrAt 2 (cfgs 0).N =
    grad (m ((c : Thread nD τ).loc main_arg0)) (m ((c : Thread nD τ).loc main_arg1)) := by
  refine (dats m 0 c).arrAt_eq_of_covers 2 _ (by decide +kernel) fun t hf y => ?_
  have h := (flush0_2 t).mp hf
  obtain ⟨r, k, rfl⟩ := exists_ix2 (n := 512) (k := 1024) y
  have e : (win0_2.blk t).view.emb (ix2 r k) = ix2 r k := by blk_ext [idx t]
  blk_simp
  rw [e, after0_2]
  refine (last m c t h _).trans ?_
  exact total rfl (fun n hn => (outsAt0 m c n hn).2) (term m c) tok (fun _ _ => rfl)
    (fun t t' ht => by funext y n; rfl) (first m c) (next m c) t h (ix2 r k)

/-- The kernel's program ends with the gradient in its result and its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩) (θ_run_and (run_main m ρ) (unchanged m ρ))
end

section
open Cert.Reference7Ideal Cert.Reference7Ideal.Gen

/-- The reference's program ends with the same function of its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  funext j
  obtain ⟨i, k, rfl⟩ := exists_ix2 (n := 512) (k := 1024) j
  refine Eq.trans ?_ (weight_comm _ _ i k).symm
  pointwise [weight, prod]
end

/-- The reference ends, leaves its arguments alone and, having no semaphore, its counters at zero. -/
theorem reference_frame : Cert.quiescent_Reference7Ideal := fun m ρ _ =>
  (θ_run Cert.Reference7Ideal.defs _ _).mono (fun r h => ⟨fun c => (h c).2, sem_eq_zero_of_no_sems (by decide) r.2⟩)
    (reference_run m ρ)

/-- From equal arguments the two programs end with equal results. -/
theorem algebraic : Cert.algebraic_Kernel7Ideal_Reference7Ideal := by
  intro m g m' g' _ hagree
  refine ⟨_, kernel_run m g, (θ_run _ _ _).mono (fun r h c => ?_) (reference_run m' g')⟩
  obtain ⟨h0, h1, h2⟩ := hagree c
  rw [← h0, ← h1]
  exact h c

end Head
end Cert.Wgrad
end
-- ==== Proof.Wgrad.Query.lean ====
/- The gradient of the query up-projection: the normed query latent against its cotangent. -/
module

public import proofs.«01_k».proof.Defs
public import proofs.«01_k».proof.Proof.Common.Rows
public import proofs.«01_k».proof.Proof.Wgrad.Total
public import proofs.«01_k».proof.Proof.Gen.Kernel8Ideal.Frame
public import proofs.«01_k».proof.Proof.Gen.Reference8Ideal.Run

@[expose] public section

set_option maxRecDepth 16384

noncomputable section

open Idealize.ShloMosaic Idealize.ShloMosaic.TcCoe Idealize.SL.Sem Cert.Rows
open Idealize.ShloMosaic.Pipeline (Dat)

namespace Cert.Wgrad
namespace Query

/-- The gradient as a function of the left factor and the cotangent. -/
def grad (u : (⟨2, ![4096, 384]⟩ : Shape).Idx → EReal) (ct : (⟨2, ![4096, 1024]⟩ : Shape).Idx → EReal) :
    (⟨2, ![384, 1024]⟩ : Shape).Idx → EReal := fun j => weight u ct (j 0) (j 1)

section
open Cert.Kernel8Ideal Cert.Kernel8Ideal.Gen
variable (m : (ℓ : Loc nD τ sig) → Buf (Elt Ideal) ℓ)

/-- Token `l` of the token tile at point `t`. -/
def tok (t : Fin cfg0.N) (l : Fin 2048) : Fin 4096 := ⟨t.val % 2 * 2048 + l.val, by omega⟩

/-- Every window's block at every grid point. -/
theorem idx : ∀ t : Fin cfg0.N, win0_0.index t = ![t.val % 2, 0] ∧ win0_1.index t = ![t.val % 2, 0]
    ∧ win0_2.index t = ![0, 0] ∧ t.val < 2 :=
  (by decide +kernel : ∀ t : Fin grid0.N, _)

/-- What the first window holds at a point. -/
theorem read0 (c : Dev nD) (t : Fin cfg0.N) (l : Fin 2048) (r : Fin 384) :
    iblk m c 0 t (ix2 l r) = m ((c : Thread nD τ).loc main_arg0) (ix2 (tok t l) r) := by
  blk_ext! [iblk, V, idx t, tok]

/-- What the second window holds at a point. -/
theorem read1 (c : Dev nD) (t : Fin cfg0.N) (l : Fin 2048) (k : Fin 1024) :
    iblk m c 1 t (ix2 l k) = m ((c : Thread nD τ).loc main_arg1) (ix2 (tok t l) k) := by
  blk_ext! [iblk, V, idx t, tok]

/-- One product of the sum an entry of the output tile is. -/
def term (c : Dev nD) (t : Fin cfg0.N) (y : S384x1024.Idx) (n : Fin 4096) : EReal :=
  prod (m ((c : Thread nD τ).loc main_arg0)) (m ((c : Thread nD τ).loc main_arg1)) (y 0) (y 1) n

/-- One point adds its token tile's products to what the accumulator held. -/
theorem step (c : Dev nD) (t : Fin cfg0.N) (x : Vec Ideal S384x1024 .f32) (y : S384x1024.Idx) :
    k0_pay2 (F := Ideal) (iblk m c 0 t) x (iblk m c 1 t) y = x y + ∑ l, term m c t y (tok t l) := by
  obtain ⟨r, k, rfl⟩ := exists_ix2 (n := 384) (k := 1024) y
  pointwise [k0_pay2, term, prod]
  simp only [read0, read1]

/-- At the first token tile the accumulator starts from zero. -/
theorem first (c : Dev nD) (t : Fin cfg0.N) (h : t.val % 2 = 0) (y : S384x1024.Idx) :
    (outsAt0 m c t.val t.isLt).2 y = 0 + ∑ l, term m c t y (tok t l) := by
  rw [outsAt0_A m c t h (by omega)]
  dsimp only
  frame_out
  refine (step m c t _ y).trans (congrArg (· + _) ?_)
  pointwise [k0_pay1]

/-- At a later one it goes on from the point before. -/
theorem next (c : Dev nD) (t : Fin cfg0.N) (h : ¬t.val % 2 = 0) (y : S384x1024.Idx) :
    (outsAt0 m c t.val t.isLt).2 y
      = (outsAt0 m c (t.val - 1) (Nat.lt_of_le_of_lt (Nat.sub_le _ _) t.isLt)).2 y + ∑ l, term m c t y (tok t l) := by
  rw [outsAt0_B m c t h (by omega)]
  dsimp only
  frame_out
  exact (congrArg (fun x => k0_pay2 (F := Ideal) (iblk m c 0 t) x (iblk m c 1 t) y)
    ((Memref.isWhole_whole cc0_scratch0).read_unread _)).trans (step m c t _ y)

/-- At the last token tile the output tile is the accumulator. -/
theorem last (c : Dev nD) (t : Fin cfg0.N) (h : t.val % 2 = 1) (y : S384x1024.Idx) :
    (outsAt0 m c t.val t.isLt).1 y = (outsAt0 m c t.val t.isLt).2 y := by
  rw [outsAt0_B m c t (by omega) h]
  dsimp only
  frame_out
  rfl

/-- The array the kernel writes. -/
theorem final (c : Dev nD) : (dats m 0 c).arrAt 2 (cfgs 0).N =
    grad (m ((c : Thread nD τ).loc main_arg0)) (m ((c : Thread nD τ).loc main_arg1)) := by
  refine (dats m 0 c).arrAt_eq_of_covers 2 _ (by decide +kernel) fun t hf y => ?_
  have h := (flush0_2 t).mp hf
  obtain ⟨r, k, rfl⟩ := exists_ix2 (n := 384) (k := 1024) y
  have e : (win0_2.blk t).view.emb (ix2 r k) = ix2 r k := by blk_ext [idx t]
  blk_simp
  rw [e, after0_2]
  refine (last m c t h _).trans ?_
  exact total rfl (fun n hn => (outsAt0 m c n hn).2) (term m c) tok (fun _ _ => rfl)
    (fun t t' ht => by funext y n; rfl) (first m c) (next m c) t h (ix2 r k)

/-- The kernel's program ends with the gradient in its result and its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩) (θ_run_and (run_main m ρ) (unchanged m ρ))
end

section
open Cert.Reference8Ideal Cert.Reference8Ideal.Gen

/-- The reference's program ends with the same function of its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  funext j
  obtain ⟨i, k, rfl⟩ := exists_ix2 (n := 384) (k := 1024) j
  refine Eq.trans ?_ (weight_comm _ _ i k).symm
  pointwise [weight, prod]
end

/-- The reference ends, leaves its arguments alone and, having no semaphore, its counters at zero. -/
theorem reference_frame : Cert.quiescent_Reference8Ideal := fun m ρ _ =>
  (θ_run Cert.Reference8Ideal.defs _ _).mono (fun r h => ⟨fun c => (h c).2, sem_eq_zero_of_no_sems (by decide) r.2⟩)
    (reference_run m ρ)

/-- From equal arguments the two programs end with equal results. -/
theorem algebraic : Cert.algebraic_Kernel8Ideal_Reference8Ideal := by
  intro m g m' g' _ hagree
  refine ⟨_, kernel_run m g, (θ_run _ _ _).mono (fun r h c => ?_) (reference_run m' g')⟩
  obtain ⟨h0, h1, h2⟩ := hagree c
  rw [← h0, ← h1]
  exact h c

end Query
end Cert.Wgrad
end
-- ==== Proof.Wgrad.Latent.lean ====
/- The gradient of the key (or value) up-projection: the normed latent against its cotangent. -/
module

public import proofs.«01_k».proof.Defs
public import proofs.«01_k».proof.Proof.Common.Rows
public import proofs.«01_k».proof.Proof.Wgrad.Total
public import proofs.«01_k».proof.Proof.Gen.Kernel9Ideal.Frame
public import proofs.«01_k».proof.Proof.Gen.Reference9Ideal.Run

@[expose] public section

set_option maxRecDepth 16384

noncomputable section

open Idealize.ShloMosaic Idealize.ShloMosaic.TcCoe Idealize.SL.Sem Cert.Rows
open Idealize.ShloMosaic.Pipeline (Dat)

namespace Cert.Wgrad
namespace Latent

/-- The gradient as a function of the left factor and the cotangent. -/
def grad (u : (⟨2, ![4096, 256]⟩ : Shape).Idx → EReal) (ct : (⟨2, ![4096, 512]⟩ : Shape).Idx → EReal) :
    (⟨2, ![256, 512]⟩ : Shape).Idx → EReal := fun j => weight u ct (j 0) (j 1)

section
open Cert.Kernel9Ideal Cert.Kernel9Ideal.Gen
variable (m : (ℓ : Loc nD τ sig) → Buf (Elt Ideal) ℓ)

/-- Token `l` of the token tile at point `t`. -/
def tok (t : Fin cfg0.N) (l : Fin 2048) : Fin 4096 := ⟨t.val % 2 * 2048 + l.val, by omega⟩

/-- Every window's block at every grid point. -/
theorem idx : ∀ t : Fin cfg0.N, win0_0.index t = ![t.val % 2, 0] ∧ win0_1.index t = ![t.val % 2, 0]
    ∧ win0_2.index t = ![0, 0] ∧ t.val < 2 :=
  (by decide +kernel : ∀ t : Fin grid0.N, _)

/-- What the first window holds at a point. -/
theorem read0 (c : Dev nD) (t : Fin cfg0.N) (l : Fin 2048) (r : Fin 256) :
    iblk m c 0 t (ix2 l r) = m ((c : Thread nD τ).loc main_arg0) (ix2 (tok t l) r) := by
  blk_ext! [iblk, V, idx t, tok]

/-- What the second window holds at a point. -/
theorem read1 (c : Dev nD) (t : Fin cfg0.N) (l : Fin 2048) (k : Fin 512) :
    iblk m c 1 t (ix2 l k) = m ((c : Thread nD τ).loc main_arg1) (ix2 (tok t l) k) := by
  blk_ext! [iblk, V, idx t, tok]

/-- One product of the sum an entry of the output tile is. -/
def term (c : Dev nD) (t : Fin cfg0.N) (y : S256x512.Idx) (n : Fin 4096) : EReal :=
  prod (m ((c : Thread nD τ).loc main_arg0)) (m ((c : Thread nD τ).loc main_arg1)) (y 0) (y 1) n

/-- One point adds its token tile's products to what the accumulator held. -/
theorem step (c : Dev nD) (t : Fin cfg0.N) (x : Vec Ideal S256x512 .f32) (y : S256x512.Idx) :
    k0_pay2 (F := Ideal) (iblk m c 0 t) x (iblk m c 1 t) y = x y + ∑ l, term m c t y (tok t l) := by
  obtain ⟨r, k, rfl⟩ := exists_ix2 (n := 256) (k := 512) y
  pointwise [k0_pay2, term, prod]
  simp only [read0, read1]

/-- At the first token tile the accumulator starts from zero. -/
theorem first (c : Dev nD) (t : Fin cfg0.N) (h : t.val % 2 = 0) (y : S256x512.Idx) :
    (outsAt0 m c t.val t.isLt).2 y = 0 + ∑ l, term m c t y (tok t l) := by
  rw [outsAt0_A m c t h (by omega)]
  dsimp only
  frame_out
  refine (step m c t _ y).trans (congrArg (· + _) ?_)
  pointwise [k0_pay1]

/-- At a later one it goes on from the point before. -/
theorem next (c : Dev nD) (t : Fin cfg0.N) (h : ¬t.val % 2 = 0) (y : S256x512.Idx) :
    (outsAt0 m c t.val t.isLt).2 y
      = (outsAt0 m c (t.val - 1) (Nat.lt_of_le_of_lt (Nat.sub_le _ _) t.isLt)).2 y + ∑ l, term m c t y (tok t l) := by
  rw [outsAt0_B m c t h (by omega)]
  dsimp only
  frame_out
  exact (congrArg (fun x => k0_pay2 (F := Ideal) (iblk m c 0 t) x (iblk m c 1 t) y)
    ((Memref.isWhole_whole cc0_scratch0).read_unread _)).trans (step m c t _ y)

/-- At the last token tile the output tile is the accumulator. -/
theorem last (c : Dev nD) (t : Fin cfg0.N) (h : t.val % 2 = 1) (y : S256x512.Idx) :
    (outsAt0 m c t.val t.isLt).1 y = (outsAt0 m c t.val t.isLt).2 y := by
  rw [outsAt0_B m c t (by omega) h]
  dsimp only
  frame_out
  rfl

/-- The array the kernel writes. -/
theorem final (c : Dev nD) : (dats m 0 c).arrAt 2 (cfgs 0).N =
    grad (m ((c : Thread nD τ).loc main_arg0)) (m ((c : Thread nD τ).loc main_arg1)) := by
  refine (dats m 0 c).arrAt_eq_of_covers 2 _ (by decide +kernel) fun t hf y => ?_
  have h := (flush0_2 t).mp hf
  obtain ⟨r, k, rfl⟩ := exists_ix2 (n := 256) (k := 512) y
  have e : (win0_2.blk t).view.emb (ix2 r k) = ix2 r k := by blk_ext [idx t]
  blk_simp
  rw [e, after0_2]
  refine (last m c t h _).trans ?_
  exact total rfl (fun n hn => (outsAt0 m c n hn).2) (term m c) tok (fun _ _ => rfl)
    (fun t t' ht => by funext y n; rfl) (first m c) (next m c) t h (ix2 r k)

/-- The kernel's program ends with the gradient in its result and its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩) (θ_run_and (run_main m ρ) (unchanged m ρ))
end

section
open Cert.Reference9Ideal Cert.Reference9Ideal.Gen

/-- The reference's program ends with the same function of its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  funext j
  obtain ⟨i, k, rfl⟩ := exists_ix2 (n := 256) (k := 512) j
  refine Eq.trans ?_ (weight_comm _ _ i k).symm
  pointwise [weight, prod]
end

/-- The reference ends, leaves its arguments alone and, having no semaphore, its counters at zero. -/
theorem reference_frame : Cert.quiescent_Reference9Ideal := fun m ρ _ =>
  (θ_run Cert.Reference9Ideal.defs _ _).mono (fun r h => ⟨fun c => (h c).2, sem_eq_zero_of_no_sems (by decide) r.2⟩)
    (reference_run m ρ)

/-- From equal arguments the two programs end with equal results. -/
theorem algebraic : Cert.algebraic_Kernel9Ideal_Reference9Ideal := by
  intro m g m' g' _ hagree
  refine ⟨_, kernel_run m g, (θ_run _ _ _).mono (fun r h c => ?_) (reference_run m' g')⟩
  obtain ⟨h0, h1, h2⟩ := hagree c
  rw [← h0, ← h1]
  exact h c

end Latent
end Cert.Wgrad
end
-- ==== Proof.Loss.Spec.lean ====
/- The forward pass of the squared-ReLU MLP, the layer norm after it, half the mean squared distance to a target, and the
   gradient of that loss down to the norm's input, written as plain sums over extended reals. -/
module

public import proofs.«01_k».proof.Proof.Common.Norm
public import Idealize.ShloMosaic.Lib.Pointwise
public import Idealize.ShloMosaic.PureOps.Ideal

@[expose] public section

noncomputable section

open Idealize.ShloMosaic

namespace Cert.Loss
open Cert.Norm

/-- A matrix of extended reals. -/
abbrev Mat (n k : ℕ) : Type := (⟨2, ![n, k]⟩ : Shape).Idx → EReal

/-- The normed rows of the norm before the MLP, the target, the MLP's weights, and both norms' scales and shifts. -/
structure Data where
  x : Mat 4096 1024
  target : Mat 4096 1024
  w1 : Mat 1024 4096
  w2 : Mat 4096 1024
  g1 : Mat 1 1024
  b1 : Mat 1 1024
  g2 : Mat 1 1024
  b2 : Mat 1 1024

/-- The float 1/1024, by which the kernel multiplies. -/
def share : EReal := Ideal.ofBits .f32 0x3A800000#32

/-- The float 1/2048. -/
def halfShare : EReal := Ideal.ofBits .f32 0x3A000000#32

namespace Data
variable (D : Data)

/-- The MLP's input. -/
def input (n : Fin 4096) (k : Fin 1024) : EReal := D.x (ix2 n k) * D.g1 (ix2 0 k) + D.b1 (ix2 0 k)

/-- The hidden units before the squared ReLU. -/
def hidden (n j : Fin 4096) : EReal := ∑ k : Fin 1024, D.input n k * D.w1 (ix2 k j)

/-- The MLP's result. -/
def inner (n : Fin 4096) (k : Fin 1024) : EReal :=
  ∑ j : Fin 4096, max (D.hidden n j) 0 * max (D.hidden n j) 0 * D.w2 (ix2 j k)

/-- A row before the second norm. -/
def line (n : Fin 4096) : Row := fun k => Ideal.ofBits .f32 0x3F9837F0#32 * D.input n k + D.inner n k

/-- The distance to the target. -/
def err (n : Fin 4096) (k : Fin 1024) : EReal := xhat (D.line n) k * D.g2 (ix2 0 k) + D.b2 (ix2 0 k) - D.target (ix2 n k)

/-- A token's part of the loss, half the mean of the squared distances. -/
def half (n : Fin 4096) : EReal := (∑ k : Fin 1024, D.err n k * D.err n k) * halfShare

/-- The distance's cotangent. -/
def dErr (n : Fin 4096) (k : Fin 1024) : EReal := D.err n k * share

/-- The cotangent of the normed row. -/
def dRow (n : Fin 4096) : Row := fun k => D.dErr n k * D.g2 (ix2 0 k)

/-- The cotangent of the row before the norm. -/
def dz (n : Fin 4096) (k : Fin 1024) : EReal := back (D.dRow n) (xhat (D.line n)) (rstd (D.line n)) k

/-- The scale's and the shift's cotangents and the loss in the first three of eight rows; the other rows are zero. -/
def stat : Mat 8 1024 := fun j =>
  if (j 0).val = 0 then ∑ n : Fin 4096, D.dErr n (j 1) * xhat (D.line n) (j 1)
  else if (j 0).val = 1 then ∑ n : Fin 4096, D.dErr n (j 1)
  else if (j 0).val = 2 then ∑ n : Fin 4096, D.half n
  else 0

/-- Every entry is a real number. -/
structure Finite : Prop where
  x : ∀ i, IsReal (D.x i)
  target : ∀ i, IsReal (D.target i)
  w1 : ∀ i, IsReal (D.w1 i)
  w2 : ∀ i, IsReal (D.w2 i)
  g1 : ∀ i, IsReal (D.g1 i)
  b1 : ∀ i, IsReal (D.b1 i)
  g2 : ∀ i, IsReal (D.g2 i)
  b2 : ∀ i, IsReal (D.b2 i)

theorem isReal_alpha : IsReal (Ideal.ofBits .f32 0x3F9837F0#32) := by
  refine ⟨9975792 / 8388608, ?_⟩
  simp [Ideal.ofBits, Ideal.ieee]; rw [← EReal.coe_mul]; norm_num

theorem share_eq : share = ((1 / 1024 : ℝ) : EReal) := by
  simp [share, Ideal.ofBits, Ideal.ieee]; rw [← EReal.coe_mul]; norm_num

theorem halfShare_eq : halfShare = ((1 / 2048 : ℝ) : EReal) := by
  simp [halfShare, Ideal.ofBits, Ideal.ieee]; rw [← EReal.coe_mul]; norm_num

/-- A sum times 1/2048 is the sum of the multiples. -/
theorem sum_mul_halfShare {ι : Type} (s : Finset ι) (f : ι → EReal) : (∑ i ∈ s, f i) * halfShare = ∑ i ∈ s, f i * halfShare := by
  classical
  induction s using Finset.induction_on with
  | empty => rw [Finset.sum_empty, Finset.sum_empty, zero_mul]
  | insert a s ha ih =>
    rw [Finset.sum_insert ha, Finset.sum_insert ha, ← ih, halfShare_eq]
    exact EReal.right_distrib_of_nonneg_of_ne_top (EReal.coe_nonneg.mpr (by norm_num)) (EReal.coe_ne_top _) _ _

/-- Half of a share of 1024, times twice a real number, is the number's share. -/
theorem twice_half {x : EReal} (h : IsReal x) : Ideal.div (Ideal.ofBits .f32 0x3F000000#32 * Ideal.ofBits .f32 0x3F800000#32) width
    * (Ideal.ofBits .f32 0x40000000#32 * x) = x * share := by
  obtain ⟨r, rfl⟩ := h
  have e : Ideal.ofBits .f32 0x3F000000#32 = ((1 / 2 : ℝ) : EReal) := by
    simp [Ideal.ofBits, Ideal.ieee]; rw [← EReal.coe_mul]; norm_num
  have e1 : Ideal.ofBits .f32 0x3F800000#32 = ((1 : ℝ) : EReal) := by
    simp [Ideal.ofBits, Ideal.ieee]; rw [← EReal.coe_mul]; norm_num
  rw [e, e1, share_eq, two_eq, width_eq]
  simp only [← EReal.coe_mul]
  rw [Ideal.div_coe (by norm_num)]
  simp only [← EReal.coe_mul]
  congr 1; ring

variable {D} (h : D.Finite) (n : Fin 4096) (k : Fin 1024)
include h

/-- Then so is every entry of the row before the second norm, -/
theorem Finite.line : IsReal (D.line n k) := by
  have hi : ∀ k, IsReal (D.input n k) := fun k => ((h.x _).mul (h.g1 _)).add (h.b1 _)
  have hu : ∀ j, IsReal (D.hidden n j) := fun j => isReal_sum _ _ fun k => (hi k).mul (h.w1 _)
  exact (isReal_alpha.mul (hi k)).add (isReal_sum _ _ fun j =>
    (((hu j).max isReal_zero).mul ((hu j).max isReal_zero)).mul (h.w2 _))

/-- of the distance to the target, -/
theorem Finite.err : IsReal (D.err n k) :=
  (((xhat_real _ (h.line n) k).mul (h.g2 _)).add (h.b2 _)).sub (h.target _)

/-- and of the normed row's cotangent. -/
theorem Finite.dRow : IsReal (D.dRow n k) := ((h.err n k).mul (share_eq ▸ isReal_coe _)).mul (h.g2 _)

omit n k in
/-- Half the sum of the tokens' mean squares is the sum of their parts of the loss. -/
theorem Finite.loss_eq : Ideal.ofBits .f32 0x3F000000#32 * ∑ n : Fin 4096, Ideal.div (∑ k : Fin 1024, D.err n k * D.err n k) width
    = ∑ n : Fin 4096, D.half n := by
  have hr : ∀ n, IsReal (∑ k : Fin 1024, D.err n k * D.err n k) := fun n => isReal_sum _ _ fun k => (h.err n k).mul (h.err n k)
  choose s hs using hr
  have hd : ∀ n, Ideal.div (s n : EReal) width = ((s n / 1024 : ℝ) : EReal) := fun n => by
    rw [width_eq, Ideal.div_coe (by norm_num), ← EReal.coe_mul]
    congr 1; ring
  have e : Ideal.ofBits .f32 0x3F000000#32 = ((1 / 2 : ℝ) : EReal) := by
    simp [Ideal.ofBits, Ideal.ieee]; rw [← EReal.coe_mul]; norm_num
  simp only [half, hs, hd, halfShare_eq, e, ← EReal.coe_mul, coe_sum]
  congr 1
  rw [Finset.mul_sum]
  exact Finset.sum_congr rfl fun n _ => by ring

/-- On real entries the one-pass gradient of the norm is the chain rule's. -/
theorem Finite.dz_eq : D.dz n k = chain (D.dRow n) (D.line n) k :=
  congrFun (back_eq_chain (D.dRow n) (D.line n) (h.dRow n) (h.line n)) k

end Data

end Cert.Loss
end
-- ==== Proof.Loss.Blocks.lean ====
/- What the kernel's windows hold at each grid point, and what the body computes from them.  Point `t` takes token tile
   `t / 2` of 512 rows and half `t % 2` of the hidden units. -/
module

public import proofs.«01_k».proof.Proof.Loss.Spec
public import proofs.«01_k».proof.Proof.Common.Rows
public import proofs.«01_k».proof.Proof.Gen.Kernel10Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Loss.Kernel
open Cert.Norm Cert.Rows Cert.Kernel10Ideal Cert.Kernel10Ideal.Gen
variable (m : (ℓ : Loc nD τ sig) → Buf (Elt Ideal) ℓ)

/-- The kernel's arguments. -/
def data (c : Dev nD) : Data where
  x := m ((c : Thread nD τ).loc main_arg0)
  target := m ((c : Thread nD τ).loc main_arg1)
  w1 := m ((c : Thread nD τ).loc main_arg2)
  w2 := m ((c : Thread nD τ).loc main_arg3)
  g1 := m ((c : Thread nD τ).loc main_arg4)
  b1 := m ((c : Thread nD τ).loc main_arg5)
  g2 := m ((c : Thread nD τ).loc main_arg6)
  b2 := m ((c : Thread nD τ).loc main_arg7)

/-- Row `r` of the token tile at point `t`. -/
def row (t : Fin cfg0.N) (r : Fin 512) : Fin 4096 := ⟨t.val / 2 * 512 + r.val, by
  have : t.val < 16 := lt_of_lt_of_eq t.isLt (by decide +kernel); omega⟩

/-- Hidden unit `j` of the half at point `t`. -/
def unit (t : Fin cfg0.N) (j : Fin 2048) : Fin 4096 := ⟨t.val % 2 * 2048 + j.val, by omega⟩

/-- Hidden unit `j` of shard `s` of the half, as one of the half's units. -/
def lane (s : Fin 4) (j : Fin 512) : Fin 2048 := ⟨s.val * 512 + j.val, by omega⟩

/-- Every window's block at every grid point. -/
theorem idx : ∀ t : Fin cfg0.N, win0_0.index t = ![t.val / 2, 0] ∧ win0_1.index t = ![t.val / 2, 0]
    ∧ win0_2.index t = ![t.val / 2, 0] ∧ win0_3.index t = ![t.val % 2, 0, 0] ∧ win0_4.index t = ![t.val % 2, 0]
    ∧ win0_5.index t = ![0, 0] ∧ win0_6.index t = ![0, 0] ∧ win0_7.index t = ![0, 0] ∧ win0_8.index t = ![0, 0]
    ∧ win0_9.index t = ![t.val / 2, t.val % 2] ∧ win0_10.index t = ![t.val / 2, 0] ∧ win0_11.index t = ![t.val / 2, 0]
    ∧ win0_12.index t = ![0, 0] ∧ t.val < 16 :=
  (by decide +kernel : ∀ t : Fin grid0.N, _)

/-- The MLP's input, which the host casts. -/
theorem read0 (c : Dev nD) (t : Fin cfg0.N) (r : Fin 512) (k : Fin 1024) :
    iblk m c 0 t (ix2 r k) = (data m c).input (row t r) k := by
  blk_simp [iblk, V]
  have e : ((View.whole main_v4).slice (win0_0.rect t)).emb (ix2 r k) = ix2 (row t r) k := by
    blk_ext [idx t, row]
  entry_read
  rw [e]
  pointwise [Data.input, data]

/-- The normed rows of the norm before. -/
theorem read1 (c : Dev nD) (t : Fin cfg0.N) (r : Fin 512) (k : Fin 1024) :
    iblk m c 1 t (ix2 r k) = (data m c).x (ix2 (row t r) k) := by
  show _ = m ((c : Thread nD τ).loc main_arg0) (ix2 (row t r) k)
  blk_ext! [iblk, V, idx t, row]

/-- The target. -/
theorem read2 (c : Dev nD) (t : Fin cfg0.N) (r : Fin 512) (k : Fin 1024) :
    iblk m c 2 t (ix2 r k) = (data m c).target (ix2 (row t r) k) := by
  show _ = m ((c : Thread nD τ).loc main_arg1) (ix2 (row t r) k)
  blk_ext! [iblk, V, idx t, row]

/-- The first weight's shards. -/
theorem read3 (c : Dev nD) (t : Fin cfg0.N) (s : Fin 4) (k : Fin 1024) (j : Fin 512) :
    iblk m c 3 t (ix3 s k j) = (data m c).w1 (ix2 k (unit t (lane s j))) := by
  show _ = m ((c : Thread nD τ).loc main_arg2) (ix2 k (unit t (lane s j)))
  blk_simp [iblk, V]
  entry_read
  pointwise [row, unit, lane]
  blk_point [iblk, V, idx t, row, unit, lane]

/-- The second weight's rows. -/
theorem read4 (c : Dev nD) (t : Fin cfg0.N) (j : Fin 2048) (k : Fin 1024) :
    iblk m c 4 t (ix2 j k) = (data m c).w2 (ix2 (unit t j) k) := by
  show _ = m ((c : Thread nD τ).loc main_arg3) (ix2 (unit t j) k)
  blk_ext! [iblk, V, idx t, unit]

/-- The norms' scales and shifts. -/
theorem read5 (c : Dev nD) (t : Fin cfg0.N) (k : Fin 1024) : iblk m c 5 t (ix2 (0 : Fin 1) k) = (data m c).g1 (ix2 0 k) := by
  show _ = m ((c : Thread nD τ).loc main_arg4) (ix2 0 k)
  blk_ext! [iblk, V, idx t]

theorem read6 (c : Dev nD) (t : Fin cfg0.N) (k : Fin 1024) : iblk m c 6 t (ix2 (0 : Fin 1) k) = (data m c).b1 (ix2 0 k) := by
  show _ = m ((c : Thread nD τ).loc main_arg5) (ix2 0 k)
  blk_ext! [iblk, V, idx t]

theorem read7 (c : Dev nD) (t : Fin cfg0.N) (k : Fin 1024) : iblk m c 7 t (ix2 (0 : Fin 1) k) = (data m c).g2 (ix2 0 k) := by
  show _ = m ((c : Thread nD τ).loc main_arg6) (ix2 0 k)
  blk_ext! [iblk, V, idx t]

theorem read8 (c : Dev nD) (t : Fin cfg0.N) (k : Fin 1024) : iblk m c 8 t (ix2 (0 : Fin 1) k) = (data m c).b2 (ix2 0 k) := by
  show _ = m ((c : Thread nD τ).loc main_arg7) (ix2 0 k)
  blk_ext! [iblk, V, idx t]

/-- Shard `s` of the half's hidden units before the squared ReLU. -/
theorem hidden_at (c : Dev nD) (t : Fin cfg0.N) (s : Fin 4) (b) (r i : Fin 512) (j : Fin 2048) (h : j.val = s.val * 512 + i.val) :
    k0_pay13 (F := Ideal) (iblk m c 0 t) (View.ld (iblk m c 3 t) (Rect.unit ![s.val, 0, 0] ![1, 1024, 512] b)) (ix2 r i)
      = (data m c).hidden (row t r) (unit t j) := by
  obtain rfl : j = lane s i := Fin.ext h
  pointwise [k0_pay13, Data.hidden]
  simp only [read0, read3]

/-- Equal hidden units have equal squared ReLUs. -/
theorem square_congr {a b : EReal} (h : a = b) : max a 0 * max a 0 = max b 0 * max b 0 := by rw [h]

/-- One term of the sum an entry of the MLP's result is. -/
def inner (c : Dev nD) (t : Fin cfg0.N) (y : S512x1024.Idx) (n : Fin 4096) : EReal :=
  max ((data m c).hidden (row t (y 0)) n) 0 * max ((data m c).hidden (row t (y 0)) n) 0 * (data m c).w2 (ix2 n (y 1))

/-- One shard's squared ReLUs. -/
def act (p : FVec Ideal S512x512 .f32) : FVec Ideal S512x512 .bf16 :=
  truncf .bf16 (mulf (maximumf p (broadcast S512x512 (Scalar.ofBits .f32 0x00000000#32)))
    (maximumf p (broadcast S512x512 (Scalar.ofBits .f32 0x00000000#32)))) bitsLt_bf16_f32

theorem act_at (p : FVec Ideal S512x512 .f32) (r i : Fin 512) : act p (ix2 r i) = max (p (ix2 r i)) 0 * max (p (ix2 r i)) 0 := by
  pointwise [act]

/-- The four shards side by side. -/
def beside (q0 q1 q2 q3 : FVec Ideal S512x512 .bf16) : FVec Ideal S512x2048 .bf16 :=
  concatenate S512x2048 1 [⟨S512x512, q0⟩, ⟨S512x512, q1⟩, ⟨S512x512, q2⟩, ⟨S512x512, q3⟩]
    concatenates_S512x512_S512x512_S512x512_S512x512_S512x2048_d1

/-- Four shards that hold a row function's entries hold them side by side too. -/
theorem beside_at (q0 q1 q2 q3 : FVec Ideal S512x512 .bf16) (r : Fin 512) (f : Fin 2048 → EReal)
    (h0 : ∀ i, q0 (ix2 r i) = f (lane 0 i)) (h1 : ∀ i, q1 (ix2 r i) = f (lane 1 i)) (h2 : ∀ i, q2 (ix2 r i) = f (lane 2 i))
    (h3 : ∀ i, q3 (ix2 r i) = f (lane 3 i)) (j : Fin 2048) : beside q0 q1 q2 q3 (ix2 r j) = f j := by
  pointwise [beside]
  have := j.isLt
  by_cases g0 : j.val < 512
  · rw [dif_pos g0]
    exact (h0 _).trans (congrArg f (Fin.ext (by show 0 * 512 + j.val = j.val; omega)))
  rw [dif_neg g0]
  by_cases g1 : j.val - 512 < 512
  · rw [dif_pos g1]
    exact (h1 _).trans (congrArg f (Fin.ext (by show 1 * 512 + (j.val - 512) = j.val; omega)))
  rw [dif_neg g1]
  by_cases g2 : j.val - 512 - 512 < 512
  · rw [dif_pos g2]
    exact (h2 _).trans (congrArg f (Fin.ext (by show 2 * 512 + (j.val - 512 - 512) = j.val; omega)))
  rw [dif_neg g2]
  exact (h3 _).trans (congrArg f (Fin.ext (by show 3 * 512 + (j.val - 512 - 512 - 512) = j.val; omega)))

/-- One point adds its half of the hidden units to what the accumulator held. -/
theorem step (c : Dev nD) (t : Fin cfg0.N) (x : Vec Ideal S512x1024 .f32) (y : S512x1024.Idx) (b0 b1 b2 b3) :
    k0_pay23 (F := Ideal) (k0_pay15 (iblk m c 0 t) (View.ld (iblk m c 3 t) (Rect.unit ![0, 0, 0] ![1, 1024, 512] b0)))
      (k0_pay18 (iblk m c 0 t) (View.ld (iblk m c 3 t) (Rect.unit ![1, 0, 0] ![1, 1024, 512] b1)))
      (iblk m c 0 t) (View.ld (iblk m c 3 t) (Rect.unit ![2, 0, 0] ![1, 1024, 512] b2))
      (iblk m c 0 t) (View.ld (iblk m c 3 t) (Rect.unit ![3, 0, 0] ![1, 1024, 512] b3)) x (iblk m c 4 t) y
      = x y + ∑ j, inner m c t y (unit t j) := by
  obtain ⟨r, k, rfl⟩ := exists_ix2 (n := 512) (k := 1024) y
  let p (s : Fin 4) (b) := k0_pay13 (F := Ideal) (iblk m c 0 t) (View.ld (iblk m c 3 t) (Rect.unit ![s.val, 0, 0] ![1, 1024, 512] b))
  let f (j : Fin 2048) := max ((data m c).hidden (row t r) (unit t j)) 0 * max ((data m c).hidden (row t r) (unit t j)) 0
  have hp : ∀ s b i, act (p s b) (ix2 r i) = f (lane s i) := fun s b i =>
    (act_at _ r i).trans (square_congr (hidden_at m c t s b r i (lane s i) rfl))
  have e : ∀ q : FVec Ideal S512x2048 .bf16, addf x (matmul (φ₁ := .bf16) (φ₂ := .bf16) dot_S512x2048_S2048x1024_S512x1024_1_0_0_1_n_n none q
      (shapeCast S2048x1024 (iblk m c 4 t) shapeCasts_S2048x1024_S2048x1024) (constant S512x1024 .f32 0x00000000#32)) (ix2 r k)
      = x (ix2 r k) + ∑ j : Fin 2048, q (ix2 r j) * iblk m c 4 t (ix2 j k) := fun q => by pointwise
  have h : _ = x (ix2 r k) + ∑ j : Fin 2048, beside (act (p 0 b0)) (act (p 1 b1)) (act (p 2 b2)) (act (p 3 b3)) (ix2 r j)
      * iblk m c 4 t (ix2 j k) := e (beside (act (p 0 b0)) (act (p 1 b1)) (act (p 2 b2)) (act (p 3 b3)))
  have hs : k0_pay23 (F := Ideal) (k0_pay15 (iblk m c 0 t) (View.ld (iblk m c 3 t) (Rect.unit ![0, 0, 0] ![1, 1024, 512] b0)))
      (k0_pay18 (iblk m c 0 t) (View.ld (iblk m c 3 t) (Rect.unit ![1, 0, 0] ![1, 1024, 512] b1)))
      (iblk m c 0 t) (View.ld (iblk m c 3 t) (Rect.unit ![2, 0, 0] ![1, 1024, 512] b2))
      (iblk m c 0 t) (View.ld (iblk m c 3 t) (Rect.unit ![3, 0, 0] ![1, 1024, 512] b3)) x (iblk m c 4 t)
      = shapeCast S512x1024 (addf x (matmul (φ₁ := .bf16) (φ₂ := .bf16) dot_S512x2048_S2048x1024_S512x1024_1_0_0_1_n_n none
        (beside (act (p 0 b0)) (act (p 1 b1)) (act (p 2 b2)) (act (p 3 b3)))
        (shapeCast S2048x1024 (iblk m c 4 t) shapeCasts_S2048x1024_S2048x1024) (constant S512x1024 .f32 0x00000000#32)))
        shapeCasts_S512x1024_S512x1024 := rfl
  rw [hs, shapeCast_self, h]
  refine congrArg (x (ix2 r k) + ·) (Finset.sum_congr rfl fun j _ => ?_)
  rw [beside_at _ _ _ _ r f (hp 0 b0) (hp 1 b1) (hp 2 b2) (hp 3 b3), read4, inner, ix2_0, ix2_1]

variable (c : Dev nD) (t : Fin cfg0.N) (x : Vec Ideal S512x1024 .f32)
  (hx : ∀ r k, x (ix2 r k) = (data m c).inner (row t r) k) (r : Fin 512) (k : Fin 1024)
include hx

/-- From the finished accumulator: the tile's centred rows, -/
theorem cen_at : k0_pay2 (F := Ideal) (iblk m c 1 t) (iblk m c 5 t) (iblk m c 6 t) x (ix2 r k) = cen ((data m c).line (row t r)) k := by
  pointwise [k0_pay2, cen, mean, width, Data.line, Data.input]
  simp only [read1, read5, read6, hx]

/-- the reciprocals of their deviations, -/
theorem rstd_at : k0_pay3 (F := Ideal) (iblk m c 1 t) (iblk m c 5 t) (iblk m c 6 t) x (ix2 r 0) = rstd ((data m c).line (row t r)) := by
  pointwise [k0_pay3, rstd, var, mean, width, eps]
  simp only [cen_at m c t x hx]

/-- the normed rows, -/
theorem xhat_at : k0_pay4 (F := Ideal) (iblk m c 1 t) (iblk m c 5 t) (iblk m c 6 t) x (ix2 r k) = xhat ((data m c).line (row t r)) k := by
  pointwise [k0_pay4, xhat]
  simp only [cen_at m c t x hx, rstd_at m c t x hx]

/-- their distances to the target, -/
theorem err_at : k0_pay5 (F := Ideal) (iblk m c 1 t) (iblk m c 5 t) (iblk m c 6 t) x (iblk m c 7 t) (iblk m c 8 t) (iblk m c 2 t) (ix2 r k)
    = (data m c).err (row t r) k := by
  pointwise [k0_pay5, Data.err]
  simp only [xhat_at m c t x hx, read7, read8, read2]

/-- the distances' cotangents, -/
theorem dErr_at : k0_pay6 (F := Ideal) (iblk m c 1 t) (iblk m c 5 t) (iblk m c 6 t) x (iblk m c 7 t) (iblk m c 8 t) (iblk m c 2 t) (ix2 r k)
    = (data m c).dErr (row t r) k := by
  pointwise [k0_pay6, Data.dErr, share]
  simp only [err_at m c t x hx]

/-- the cotangent of the rows before the norm, -/
theorem dz_at : k0_pay7 (F := Ideal) (k0_pay3 (iblk m c 1 t) (iblk m c 5 t) (iblk m c 6 t) x)
    (k0_pay4 (iblk m c 1 t) (iblk m c 5 t) (iblk m c 6 t) x)
    (k0_pay6 (iblk m c 1 t) (iblk m c 5 t) (iblk m c 6 t) x (iblk m c 7 t) (iblk m c 8 t) (iblk m c 2 t)) (iblk m c 7 t) (ix2 r k)
    = (data m c).dz (row t r) k := by
  pointwise [k0_pay7, Data.dz, back, mean, width, Data.dRow]
  simp only [rstd_at m c t x hx, xhat_at m c t x hx, dErr_at m c t x hx, read7]

/-- and what the tile adds to the scale's cotangent, -/
theorem scale_at (old : Vec Ideal S1x1024 .f32) : k0_pay9 (F := Ideal) (k0_pay4 (iblk m c 1 t) (iblk m c 5 t) (iblk m c 6 t) x)
    (k0_pay6 (iblk m c 1 t) (iblk m c 5 t) (iblk m c 6 t) x (iblk m c 7 t) (iblk m c 8 t) (iblk m c 2 t)) old (ix2 0 k)
    = old (ix2 0 k) + ∑ r, (data m c).dErr (row t r) k * xhat ((data m c).line (row t r)) k := by
  pointwise [k0_pay9]
  simp only [xhat_at m c t x hx, dErr_at m c t x hx]

/-- to the shift's, -/
theorem shift_at (old : Vec Ideal S1x1024 .f32) :
    k0_pay10 (F := Ideal) (k0_pay6 (iblk m c 1 t) (iblk m c 5 t) (iblk m c 6 t) x (iblk m c 7 t) (iblk m c 8 t) (iblk m c 2 t)) old (ix2 0 k)
    = old (ix2 0 k) + ∑ r, (data m c).dErr (row t r) k := by
  pointwise [k0_pay10]
  simp only [dErr_at m c t x hx]

/-- and to the loss. -/
theorem loss_at (old : Vec Ideal S1x1024 .f32) :
    k0_pay1 (F := Ideal) (k0_pay5 (iblk m c 1 t) (iblk m c 5 t) (iblk m c 6 t) x (iblk m c 7 t) (iblk m c 8 t) (iblk m c 2 t)) old (ix2 0 k)
    = old (ix2 0 k) + ∑ r, (data m c).half (row t r) := by
  have h := Data.sum_mul_halfShare Finset.univ fun r => ∑ k, (data m c).err (row t r) k * (data m c).err (row t r) k
  refine Eq.trans ?_ (congrArg (old (ix2 0 k) + ·) h)
  pointwise [k0_pay1, halfShare]
  simp only [err_at m c t x hx]

end Cert.Loss.Kernel
end
-- ==== Proof.Loss.Kernel.lean ====
/- The arrays the kernel writes: the hidden units tile by tile, the cotangent of the row before the norm once both halves of
   the hidden units have been added up, and the scale's and shift's cotangents and the loss once all tokens have. -/
module

public import proofs.«01_k».proof.Proof.Loss.Blocks
public import proofs.«01_k».proof.Proof.Wgrad.Total
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Loss.Kernel
open Cert.Norm Cert.Rows Cert.Kernel10Ideal Cert.Kernel10Ideal.Gen
variable (m : (ℓ : Loc nD τ sig) → Buf (Elt Ideal) ℓ)

/-- After a store to whole columns from `o` on, a stored column reads the stored values, -/
theorem canon_strip {e : EltTy} {o : ℕ} (hb : ∀ a : Fin 2, (![0, o] : Fin 2 → ℕ) a + (![512, 512] : Fin 2 → ℕ) a ≤ S512x2048.size a)
    (w : (Rect.unit (s := S512x2048) ![0, o] ![512, 512] hb).shape.Idx → Elt Ideal e)
    (L : List (View.Piece (Elt Ideal) S512x2048 e)) (r i : Fin 512) (j : Fin 2048) (h : j.val = o + i.val) :
    View.canon (⟨Rect.unit (s := S512x2048) ![0, o] ![512, 512] hb, w⟩ :: L) (ix2 r j) = w (ix2 (n0 := 512) (n1 := 512) r i) := by
  have hy : (Rect.unit (s := S512x2048) ![0, o] ![512, 512] hb).emb (ix2 (n0 := 512) (n1 := 512) r i) = ix2 r j := by
    funext a; apply Fin.ext
    refine Fin.cases ?_ (fun b => ?_) a
    · show 0 + 1 * r.val = r.val; omega
    · obtain rfl : b = 0 := Subsingleton.elim _ _
      show o + 1 * i.val = j.val; omega
  rw [← hy]; exact View.canon_cons_emb _ w L _

/-- and an earlier column is as it was. -/
theorem canon_before {e : EltTy} {o : ℕ} (hb : ∀ a : Fin 2, (![0, o] : Fin 2 → ℕ) a + (![512, 512] : Fin 2 → ℕ) a ≤ S512x2048.size a)
    (w : (Rect.unit (s := S512x2048) ![0, o] ![512, 512] hb).shape.Idx → Elt Ideal e)
    (L : List (View.Piece (Elt Ideal) S512x2048 e)) (r : Fin 512) (j : Fin 2048) (h : j.val < o) :
    View.canon (⟨Rect.unit (s := S512x2048) ![0, o] ![512, 512] hb, w⟩ :: L) (ix2 r j) = View.canon L (ix2 r j) := by
  refine View.canon_cons_of_not_mem _ L ?_
  rw [Rect.mem_set_unit]
  intro hall
  have h1 : o ≤ j.val ∧ j.val < o + 512 := hall 1
  omega

/-- The four shards a point stores are the tile's hidden units. -/
theorem strips (c : Dev nD) (t : Fin cfg0.N) (r : Fin 512) (j : Fin 2048) (b0 b1 b2 b3 a0 a1 a2 a3) :
    View.canon (Val := Elt Ideal) (s := S512x2048) (e := .bf16)
      [⟨Rect.unit ![0, 1536] ![512, 512] a3, k0_pay22 (F := Ideal) (iblk m c 0 t) (View.ld (iblk m c 3 t) (Rect.unit ![3, 0, 0] ![1, 1024, 512] b3))⟩,
        ⟨Rect.unit ![0, 1024] ![512, 512] a2, k0_pay20 (F := Ideal) (iblk m c 0 t) (View.ld (iblk m c 3 t) (Rect.unit ![2, 0, 0] ![1, 1024, 512] b2))⟩,
        ⟨Rect.unit ![0, 512] ![512, 512] a1, k0_pay17 (F := Ideal) (iblk m c 0 t) (View.ld (iblk m c 3 t) (Rect.unit ![1, 0, 0] ![1, 1024, 512] b1))⟩,
        ⟨Rect.unit ![0, 0] ![512, 512] a0, k0_pay14 (F := Ideal) (iblk m c 0 t) (View.ld (iblk m c 3 t) (Rect.unit ![0, 0, 0] ![1, 1024, 512] b0))⟩]
      (ix2 r j) = (data m c).hidden (row t r) (unit t j) := by
  have := j.isLt
  by_cases g3 : 1536 ≤ j.val
  · exact (canon_strip _ _ _ r ⟨j.val - 1536, by omega⟩ j (by show j.val = 1536 + (j.val - 1536); omega)).trans
      (hidden_at m c t 3 b3 r _ j (by show j.val = 3 * 512 + (j.val - 1536); omega))
  refine (canon_before _ _ _ r j (by omega)).trans ?_
  by_cases g2 : 1024 ≤ j.val
  · exact (canon_strip _ _ _ r ⟨j.val - 1024, by omega⟩ j (by show j.val = 1024 + (j.val - 1024); omega)).trans
      (hidden_at m c t 2 b2 r _ j (by show j.val = 2 * 512 + (j.val - 1024); omega))
  refine (canon_before _ _ _ r j (by omega)).trans ?_
  by_cases g1 : 512 ≤ j.val
  · exact (canon_strip _ _ _ r ⟨j.val - 512, by omega⟩ j (by show j.val = 512 + (j.val - 512); omega)).trans
      (hidden_at m c t 1 b1 r _ j (by show j.val = 1 * 512 + (j.val - 512); omega))
  refine (canon_before _ _ _ r j (by omega)).trans ?_
  exact (canon_strip _ _ _ r ⟨j.val, by omega⟩ j (by show j.val = 0 + j.val; omega)).trans
    (hidden_at m c t 0 b0 r _ j (by show j.val = 0 * 512 + j.val; omega))

/-- The hidden units. -/
theorem final9 (c : Dev nD) : (dats m 0 c).arrAt 9 (cfgs 0).N =
    fun j : (⟨2, ![4096, 4096]⟩ : Shape).Idx => (data m c).hidden (j 0) (j 1) := by
  refine (dats m 0 c).arrAt_eq_of_covers 9 _ (by decide +kernel) fun t _ y => ?_
  obtain ⟨r, k, rfl⟩ := exists_ix2 (n := 512) (k := 2048) y
  have e : (win0_9.blk t).view.emb (ix2 r k) = ix2 (row t r) (unit t k) := by blk_ext [idx t, row, unit]
  blk_simp
  rw [e, after0_9]
  by_cases h : t.val % 2 = 0
  · by_cases h' : t.val % 16 = 0
    all_goals first | rw [outsAt0_A m c t h' h (by omega)] | rw [outsAt0_C m c t h' h (by omega)]
    all_goals
      dsimp only; frame_out
      exact strips m c t r k _ _ _ _ _ _ _ _
  · rw [outsAt0_B m c t (by omega) h (by omega)]
    dsimp only; frame_out
    exact strips m c t r k _ _ _ _ _ _ _ _

/-- At the first half of the hidden units the accumulator starts from zero. -/
theorem acc_first (c : Dev nD) (t : Fin cfg0.N) (h : t.val % 2 = 0) (y : S512x1024.Idx) :
    (outsAt0 m c t.val t.isLt).2.2.2.2 y = 0 + ∑ j, inner m c t y (unit t j) := by
  by_cases h' : t.val % 16 = 0
  all_goals first | rw [outsAt0_A m c t h' h (by omega)] | rw [outsAt0_C m c t h' h (by omega)]
  all_goals
    dsimp only; frame_out
    refine (step m c t _ y _ _ _ _).trans (congrArg (· + _) ?_)
    pointwise [k0_pay12]

/-- At the second it goes on from the point before. -/
theorem acc_next (c : Dev nD) (t : Fin cfg0.N) (h : ¬t.val % 2 = 0) (y : S512x1024.Idx) :
    (outsAt0 m c t.val t.isLt).2.2.2.2 y
      = (outsAt0 m c (t.val - 1) (Nat.lt_of_le_of_lt (Nat.sub_le _ _) t.isLt)).2.2.2.2 y + ∑ j, inner m c t y (unit t j) := by
  rw [outsAt0_B m c t (by omega) h (by omega)]
  dsimp only; frame_out
  refine (step m c t _ y _ _ _ _).trans (congrArg (· + _) ?_)
  exact congrFun ((Memref.isWhole_whole cc0_scratch0).read_unread _) y

/-- After it, the accumulator holds the MLP's result. -/
theorem acc_last (c : Dev nD) (t : Fin cfg0.N) (h : t.val % 2 = 1) (r : Fin 512) (k : Fin 1024) :
    (outsAt0 m c t.val t.isLt).2.2.2.2 (ix2 r k) = (data m c).inner (row t r) k := by
  refine (Cert.Wgrad.total rfl (fun n hn => (outsAt0 m c n hn).2.2.2.2) (inner m c) unit (fun _ _ => rfl) (fun t t' ht => ?_)
    (acc_first m c) (acc_next m c) t h (ix2 r k))
  funext y n
  simp only [inner, row, ht]

/-- The cotangent of the row before the norm at a tile's second point. -/
theorem dz_last (c : Dev nD) (t : Fin cfg0.N) (h : t.val % 2 = 1) (r : Fin 512) (k : Fin 1024) :
    (outsAt0 m c t.val t.isLt).2.1 (ix2 r k) = (data m c).dz (row t r) k := by
  rw [outsAt0_B m c t (by omega) (by omega) h]
  dsimp only; frame_out
  refine dz_at m c t _ (fun r k => ?_) r k
  refine Eq.trans ?_ (acc_last m c t h r k)
  rw [outsAt0_B m c t (by omega) (by omega) h]
  dsimp only; frame_out

/-- The cotangent of the row before the norm, -/
theorem final10 (c : Dev nD) : (dats m 0 c).arrAt 10 (cfgs 0).N =
    fun j : (⟨2, ![4096, 1024]⟩ : Shape).Idx => (data m c).dz (j 0) (j 1) := by
  refine (dats m 0 c).arrAt_eq_of_covers 10 _ (by decide +kernel) fun t hf y => ?_
  obtain ⟨r, k, rfl⟩ := exists_ix2 (n := 512) (k := 1024) y
  have e : (win0_10.blk t).view.emb (ix2 r k) = ix2 (row t r) k := by blk_ext [idx t, row]
  blk_simp
  rw [e, after0_10]
  exact dz_last m c t ((flush0_10 t).mp hf) r k

/-- and the same cast. -/
theorem final11 (c : Dev nD) : (dats m 0 c).arrAt 11 (cfgs 0).N =
    fun j : (⟨2, ![4096, 1024]⟩ : Shape).Idx => (data m c).dz (j 0) (j 1) := by
  refine (dats m 0 c).arrAt_eq_of_covers 11 _ (by decide +kernel) fun t hf y => ?_
  have h := (flush0_11 t).mp hf
  obtain ⟨r, k, rfl⟩ := exists_ix2 (n := 512) (k := 1024) y
  have e : (win0_11.blk t).view.emb (ix2 r k) = ix2 (row t r) k := by blk_ext [idx t, row]
  blk_simp
  rw [e, after0_11]
  refine Eq.trans ?_ (dz_last m c t h r k)
  rw [outsAt0_B m c t (by omega) (by omega) h]
  dsimp only; frame_out
  pointwise [k0_pay8]

/-- What a tile's rows add to the first three of the eight rows. -/
def term (c : Dev nD) (q : Fin 8) (k : Fin 1024) (n : Fin 4096) : EReal :=
  if q.val = 0 then (data m c).dErr n k * xhat ((data m c).line n) k
  else if q.val = 1 then (data m c).dErr n k
  else if q.val = 2 then (data m c).half n
  else 0

/-- What a point adds: nothing at a tile's first half, the tile's rows at its second. -/
def part (c : Dev nD) (t : Fin cfg0.N) (y : S8x1024.Idx) : EReal :=
  if t.val % 2 = 0 then 0 else ∑ r : Fin 512, term m c (y 0) (y 1) (row t r)

/-- The first point starts the rows from zero. -/
theorem stat_first (c : Dev nD) (t : Fin cfg0.N) (h : t.val % 16 = 0) (y : S8x1024.Idx) :
    (outsAt0 m c t.val t.isLt).2.2.2.1 y = 0 + part m c t y := by
  have h2 : t.val % 2 = 0 := by omega
  rw [outsAt0_A m c t h h2 (by omega)]
  dsimp only; frame_out
  pointwise [k0_pay11]
  simp only [part, h2, if_true, add_zero]

/-- A later one adds its part to what the point before left. -/
theorem stat_next (c : Dev nD) (t : Fin cfg0.N) (h : ¬t.val % 16 = 0) (y : S8x1024.Idx) :
    (outsAt0 m c t.val t.isLt).2.2.2.1 y
      = (outsAt0 m c (t.val - 1) (Nat.lt_of_le_of_lt (Nat.sub_le _ _) t.isLt)).2.2.2.1 y + part m c t y := by
  obtain ⟨r, k, rfl⟩ := exists_ix2 (n := 8) (k := 1024) y
  by_cases h2 : t.val % 2 = 0
  · rw [outsAt0_C m c t h h2 (by omega)]
    simp only [part, h2, if_true, add_zero, out0_C_12]
  have h3 : t.val % 2 = 1 := by omega
  have hx : ∀ r k, _ = (data m c).inner (row t r) k := acc_last m c t h3
  rw [outsAt0_B m c t h h2 h3] at hx ⊢
  dsimp only at hx ⊢; frame_out
  by_cases h0 : r.val = 2
  · refine (read_row _ _ _ _ _ r k h0).trans ?_
    obtain rfl : r = 2 := Fin.ext h0
    refine (loss_at m c t _ (fun r k => Eq.trans ?_ (hx r k)) k _).trans ?_
    · frame_out
    simp only [part, term, h2, ix2_0, ix2_1, h0, if_true, if_false]
    pointwise
  refine (read_other _ _ _ _ _ r k h0).trans ?_
  by_cases h1 : r.val = 1
  · refine (read_row _ _ _ _ _ r k h1).trans ?_
    obtain rfl : r = 1 := Fin.ext h1
    refine (shift_at m c t _ (fun r k => Eq.trans ?_ (hx r k)) k _).trans ?_
    · frame_out
    simp only [part, term, h2, ix2_0, ix2_1, h1, if_true, if_false, one_ne_zero]
    pointwise
  refine (read_other _ _ _ _ _ r k h1).trans ?_
  by_cases h4 : r.val = 0
  · refine (read_row _ _ _ _ _ r k h4).trans ?_
    obtain rfl : r = 0 := Fin.ext h4
    refine (scale_at m c t _ (fun r k => Eq.trans ?_ (hx r k)) k _).trans ?_
    · frame_out
    simp only [part, term, h2, ix2_0, ix2_1, h4, if_true, if_false]
    pointwise
  refine (read_other _ _ _ _ _ r k h4).trans ?_
  rw [View.writes_nil, Memref.IsWhole.read_unread]
  simp only [part, term, ix2_0, h0, h1, h2, h4, if_false, Finset.sum_const_zero, add_zero]

/-- Sixteen points of which every second adds the sum of one of eight tiles of 512 tokens add the sum over all tokens. -/
theorem sum_tiles (c : Dev nD) (y : S8x1024.Idx) (u : ∀ s : Fin 16, s.val < cfg0.N) :
    ∑ s : Fin 16, part m c ⟨s.val, u s⟩ y = ∑ n, term m c (y 0) (y 1) n := by
  refine Eq.trans (Fin.sum_mul_add_congr (S := 8) (n := 2) (F := fun a b => part m c ⟨a.val * 2 + b.val, u ⟨a.val * 2 + b.val, by omega⟩⟩ y)
    fun a b hl => rfl).symm ?_
  refine Eq.trans ?_ (Fin.sum_mul_add_congr (S := 8) (n := 512) (L := 4096)
    (F := fun s l => term m c (y 0) (y 1) ⟨s.val * 512 + l.val, by omega⟩) fun s l hl => rfl)
  refine Finset.sum_congr rfl fun a _ => ?_
  rw [Fin.sum_univ_two, part, if_pos (by show (a.val * 2 + 0) % 2 = 0; omega), zero_add,
    part, if_neg (by show ¬(a.val * 2 + 1) % 2 = 0; omega)]
  refine Finset.sum_congr rfl fun r _ => congrArg _ (Fin.ext ?_)
  show (a.val * 2 + 1) / 2 * 512 + r.val = a.val * 512 + r.val
  omega

/-- The scale's and shift's cotangents and the loss. -/
theorem final12 (c : Dev nD) : (dats m 0 c).arrAt 12 (cfgs 0).N = (data m c).stat := by
  refine (dats m 0 c).arrAt_eq_of_after_last 12 ⟨15, by decide +kernel⟩ (by decide +kernel) _ fun j => ?_
  obtain ⟨r, k, rfl⟩ := exists_ix2 (n := 8) (k := 1024) j
  rw [after0_12]
  have hs := Pipeline.eq_sum_fin_of_reset_step_apply_last (fun n h => (outsAt0 m c n h).2.2.2.1) 16 (fun _ => 0) (part m c)
    (stat_first m c) (stat_next m c) (by decide +kernel) ⟨15, by decide +kernel⟩ (by decide +kernel) (ix2 r k)
  refine (cast_eq _ _).trans (hs.trans ?_)
  have e : (cfg0.win 12).arr.view.emb (ix2 r k) = ix2 r k := by blk_ext [idx ⟨15, by decide +kernel⟩]
  rw [e, zero_add]
  refine (sum_tiles m c _ _).trans ?_
  simp only [term, Data.stat, ix2_0, ix2_1]
  by_cases h0 : r.val = 0
  · simp only [h0, if_true]
  by_cases h1 : r.val = 1
  · simp only [h1, if_true, if_false, one_ne_zero]
  by_cases h2 : r.val = 2
  · simp only [h2, if_true, if_false, OfNat.ofNat_ne_zero, OfNat.ofNat_ne_one]
  · simp only [h0, h1, h2, if_false, Finset.sum_const_zero]

end Cert.Loss.Kernel
end
-- ==== Proof.Loss.Reference.lean ====
/- The entries the reference's arrays hold. -/
module

public import proofs.«01_k».proof.Proof.Loss.Spec
public import proofs.«01_k».proof.Proof.Common.HostNorm
public import proofs.«01_k».proof.Proof.Gen.Reference10Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Loss.Reference
open Cert.Norm Cert.Rows Cert.Reference10Ideal Cert.Reference10Ideal.Gen Cert.Reference10Ideal.Value

/-- What the reference's arguments are to the specification. -/
def args (V : Valuation τ sig (Elt Ideal)) : Data where
  x := V (Proc.devRef .tc main_arg0)
  target := V (Proc.devRef .tc main_arg1)
  w1 := V (Proc.devRef .tc main_arg2)
  w2 := V (Proc.devRef .tc main_arg3)
  g1 := V (Proc.devRef .tc main_arg4)
  b1 := V (Proc.devRef .tc main_arg5)
  g2 := V (Proc.devRef .tc main_arg6)
  b2 := V (Proc.devRef .tc main_arg7)

variable (V : Valuation τ sig (Elt Ideal)) (n j : Fin 4096) (k : Fin 1024)

/-- The arrays: the MLP's input, -/
def input : FVec Ideal S4096x1024 .f32 := res_main_v7 V

/-- the hidden units before the squared ReLU, -/
def hidden : FVec Ideal S4096x4096 .f32 := res_main_v8 V

/-- after the ReLU, -/
def relu : FVec Ideal S4096x4096 .f32 := res_main_v11 V

/-- the rows before the second norm, -/
def z : FVec Ideal S4096x1024 .f32 := res_main_v14 V

/-- the normed rows, -/
def normed : FVec Ideal S4096x1024 .f32 := res_main_v37 V

/-- their distances to the target, -/
def err : FVec Ideal S4096x1024 .f32 := res_main_v42 V

/-- the distances' cotangents, -/
def dErr : FVec Ideal S4096x1024 .f32 := res_main_v56 V

/-- and the normed rows'. -/
def dRow : FVec Ideal S4096x1024 .f32 := res_main_v63 V

/-- The MLP's input, -/
theorem input_at : input V (ix2 n k) = (args V).input n k := by
  pointwise [input, res_main_v7, Data.input, args]

/-- the hidden units before the squared ReLU, -/
theorem hidden_at : hidden V (ix2 n j) = (args V).hidden n j := by
  have h : hidden V (ix2 n j) = ∑ k : Fin 1024, input V (ix2 n k) * (args V).w1 (ix2 k j) := by
    pointwise [hidden, input, res_main_v8, args]
  rw [h]; simp only [input_at]; rfl

/-- after the ReLU, -/
theorem relu_at : relu V (ix2 n j) = max ((args V).hidden n j) 0 := by
  have h : relu V (ix2 n j) = max (hidden V (ix2 n j)) 0 := by pointwise [relu, hidden, res_main_v11]
  rw [h, hidden_at]

/-- and the row before the second norm. -/
theorem line_at : HostNorm.line (z V) n = (args V).line n := by
  funext k
  have h : z V (ix2 n k) = Ideal.ofBits .f32 0x3F9837F0#32 * input V (ix2 n k)
      + ∑ j : Fin 4096, relu V (ix2 n j) * relu V (ix2 n j) * (args V).w2 (ix2 j k) := by
    pointwise [z, input, relu, res_main_v14, args]
  show z V (ix2 n k) = _
  rw [h]; simp only [input_at, relu_at]; rfl

/-- The norm's arrays are the general ones. -/
theorem centred_eq : res_main_v20 V = HostNorm.centred (z V) := by unfold res_main_v20 res_main_v18; rfl

theorem centred_eq' : res_main_v29 V = HostNorm.centred (z V) := by unfold res_main_v29 res_main_v18; rfl

theorem vars_eq : res_main_v31 V = HostNorm.vars (z V) := by unfold res_main_v31; rw [centred_eq]; rfl

theorem rstds_eq : res_main_v32 V = HostNorm.rstds (z V) := by unfold res_main_v32; rw [vars_eq]; rfl

theorem normed_eq : normed V = HostNorm.normed (z V) := by unfold normed res_main_v37; rw [centred_eq', rstds_eq]; rfl

/-- The distance to the target, -/
theorem err_at : err V (ix2 n k) = (args V).err n k := by
  have h : err V (ix2 n k) = normed V (ix2 n k) * (args V).g2 (ix2 0 k) + (args V).b2 (ix2 0 k)
      - (args V).target (ix2 n k) := by pointwise [err, normed, res_main_v42, args]
  rw [h, normed_eq, HostNorm.normed_at, line_at]; rfl

variable {V} (hD : (args V).Finite)
include hD

/-- its cotangent, -/
theorem dErr_at : dErr V (ix2 n k) = (args V).dErr n k := by
  have h : dErr V (ix2 n k) = Ideal.div (Ideal.ofBits .f32 0x3F000000#32 * Ideal.ofBits .f32 0x3F800000#32) width
      * (Ideal.ofBits .f32 0x40000000#32 * err V (ix2 n k)) := by pointwise [dErr, err, res_main_v56, width]
  rw [h, err_at]
  exact Data.twice_half (hD.err n k)

/-- and the normed row's. -/
theorem dRow_line : HostNorm.line (dRow V) n = (args V).dRow n := by
  funext k
  have h : dRow V (ix2 n k) = dErr V (ix2 n k) * (args V).g2 (ix2 0 k) := by pointwise [dRow, dErr, res_main_v63, args]
  show dRow V (ix2 n k) = _
  rw [h, dErr_at _ _ hD]; rfl

/-- The chain rule's cotangent of the row before the norm. -/
theorem dz_at : HostNorm.chains (dRow V) (z V) (ix2 n k) = (args V).dz n k := by
  rw [HostNorm.chains_at, dRow_line _ hD, line_at, hD.dz_eq]

omit hD

/-- The sums over the tokens, as a row. -/
def down (x : FVec Ideal S4096x1024 .f32) : FVec Ideal S1x1024 .f32 :=
  shapeCast S1x1024 (Host.reduceAdd x (constant S_ .f32 0x00000000#32) reducesTo_S4096x1024_S1024_d0 h_S_) shapeCasts_S1024_S1x1024

theorem down_at (x : FVec Ideal S4096x1024 .f32) : down x (ix2 0 k) = ∑ n : Fin 4096, x (ix2 n k) := by
  pointwise [down]

/-- Half the sum of the rows' mean squares, in every entry of a row. -/
def spread (x : FVec Ideal S4096x1024 .f32) : FVec Ideal S1x1024 .f32 :=
  broadcastInDim S1x1024 ![] bcast_S_S1x1024 (mulf (constant S_ .f32 0x3F000000#32) (Host.reduceAdd (Host.divf
    (Host.reduceAdd (mulf x x) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_))

theorem spread_at (x : FVec Ideal S4096x1024 .f32) : spread x (ix2 0 k)
    = Ideal.ofBits .f32 0x3F000000#32 * ∑ n : Fin 4096, Ideal.div (∑ k : Fin 1024, x (ix2 n k) * x (ix2 n k)) width := by
  pointwise [spread, width]

/-- Three rows on top of five rows of zeros. -/
def stack (x y z : FVec Ideal S1x1024 .f32) : FVec Ideal S8x1024 .f32 :=
  pad S8x1024 ![0, 0] ![5, 0] ![0, 0] (concatenate S3x1024 0 [⟨S1x1024, x⟩, ⟨S1x1024, y⟩, ⟨S1x1024, z⟩]
    concatenates_S1x1024_S1x1024_S1x1024_S3x1024_d0) (sitofp .f32 (constantI S_ 32 0#32)) pads_S3x1024_S8x1024_050_000 h_S_

theorem stack_at (x y z : FVec Ideal S1x1024 .f32) (r : Fin 8) : stack x y z (ix2 r k) = if r.val = 0 then x (ix2 0 k)
    else if r.val = 1 then y (ix2 0 k) else if r.val = 2 then z (ix2 0 k) else 0 := by
  have hp : ∀ i, (sitofp .f32 (constantI S_ 32 0#32) : FVec Ideal S_ .f32) i = 0 := fun i => by
    show ((((0#32 : BitVec 32).toInt : ℤ) : ℝ) : EReal) = 0
    simp
  pointwise [stack]
  by_cases h0 : r.val = 0
  · rw [dif_pos (by omega), dif_pos (by omega), if_pos h0]
    exact congrArg (fun q => x (ix2 q k)) (Fin.ext h0)
  rw [if_neg h0]
  by_cases h1 : r.val = 1
  · rw [dif_pos (by omega), dif_neg (by omega), dif_pos (by omega), if_pos h1]
    exact congrArg (fun q => y (ix2 q k)) (Fin.ext (by show r.val - 1 = 0; omega))
  rw [if_neg h1]
  by_cases h2 : r.val = 2
  · rw [dif_pos (by omega), dif_neg (by omega), dif_neg (by omega), if_pos h2]
    exact congrArg (fun q => z (ix2 q k)) (Fin.ext (by show r.val - 1 - 1 = 0; omega))
  · rw [dif_neg (by omega), if_neg h2]
    exact hp fun a => a.elim0

include hD

/-- The scale's and the shift's cotangents and the loss. -/
theorem stat_eq : stack (down (mulf (normed V) (dErr V))) (down (dErr V)) (spread (err V))
    = (args V).stat := by
  funext i
  obtain ⟨r, k, rfl⟩ := exists_ix2 (n := 8) (k := 1024) i
  have h1 : ∀ n, mulf (normed V) (dErr V) (ix2 n k) = (args V).dErr n k * xhat ((args V).line n) k := fun n => by
    show normed V (ix2 n k) * dErr V (ix2 n k) = _
    rw [normed_eq, HostNorm.normed_at, line_at, dErr_at _ _ hD, mul_comm]
  rw [stack_at, down_at, down_at, spread_at]
  simp only [h1, dErr_at _ _ hD, err_at, Data.stat, ix2_0, ix2_1, hD.loss_eq]
  rfl

omit hD

/-- The arguments at the launch. -/
def data (m : (ℓ : Loc nD τ sig) → Buf (Elt Ideal) ℓ) (c : Dev nD) : Data where
  x := m ((c : Thread nD τ).loc main_arg0)
  target := m ((c : Thread nD τ).loc main_arg1)
  w1 := m ((c : Thread nD τ).loc main_arg2)
  w2 := m ((c : Thread nD τ).loc main_arg3)
  g1 := m ((c : Thread nD τ).loc main_arg4)
  b1 := m ((c : Thread nD τ).loc main_arg5)
  g2 := m ((c : Thread nD τ).loc main_arg6)
  b2 := m ((c : Thread nD τ).loc main_arg7)

theorem data_eq (m : (ℓ : Loc nD τ sig) → Buf (Elt Ideal) ℓ) (c : Dev nD) : args (StableHlo.launchContents m c) = data m c := rfl

/-- The run's results: the hidden units, cast, -/
theorem res_u : truncf .bf16 (hidden V) bitsLt_bf16_f32 = fun i : S4096x4096.Idx => (args V).hidden (i 0) (i 1) := by
  funext i
  obtain ⟨r, k, rfl⟩ := exists_ix2 (n := 4096) (k := 4096) i
  exact hidden_at V r k

include hD

/-- the cotangent of the row before the norm, -/
theorem chains_eq : HostNorm.chains (dRow V) (z V) = fun i : S4096x1024.Idx => (args V).dz (i 0) (i 1) := by
  funext i
  obtain ⟨r, k, rfl⟩ := exists_ix2 (n := 4096) (k := 1024) i
  exact dz_at r k hD

/-- which the program computes by the same operations, -/
theorem res_dz : addf (addf (res_main_v68 V) (res_main_v77 V)) (HostNorm.wideSum (HostNorm.overWidth
    (addf (HostNorm.sums (Host.negf (res_main_v68 V))) (HostNorm.sums (Host.negf (res_main_v77 V))))))
    = fun i : S4096x1024.Idx => (args V).dz (i 0) (i 1) := by
  rw [← chains_eq hD]
  have h : res_main_v68 V = mulf (dRow V) (HostNorm.wide (HostNorm.rstds (z V))) := by
    unfold res_main_v68; rw [rstds_eq]; rfl
  have h' : res_main_v77 V = HostNorm.dSquares (dRow V) (z V) := by
    unfold res_main_v77; rw [centred_eq, centred_eq', rstds_eq, vars_eq]; rfl
  rw [h, h']; rfl

/-- and the same cast. -/
theorem res_dzb : truncf .bf16 (addf (addf (res_main_v68 V) (res_main_v77 V)) (HostNorm.wideSum (HostNorm.overWidth
    (addf (HostNorm.sums (Host.negf (res_main_v68 V))) (HostNorm.sums (Host.negf (res_main_v77 V))))))) bitsLt_bf16_f32
    = fun i : S4096x1024.Idx => (args V).dz (i 0) (i 1) :=
  Eq.trans (funext fun i => rfl) (res_dz hD)

end Cert.Loss.Reference
end
-- ==== Proof.Loss.Claim.lean ====
/- On finite arguments the two programs of the MLP's forward pass and its loss end with the same four arrays. -/
module

public import proofs.«01_k».proof.Defs
public import proofs.«01_k».proof.Proof.Common.Finite
public import proofs.«01_k».proof.Proof.Loss.Kernel
public import proofs.«01_k».proof.Proof.Loss.Reference

@[expose] public section

set_option maxRecDepth 16384

noncomputable section

open Idealize.ShloMosaic Idealize.ShloMosaic.TcCoe Idealize.SL.Sem

/-- The shape relations of the finiteness test hold. -/
theorem Cert.Pre_finite10.Gen.facts : Cert.Pre_finite10.Facts :=
  ⟨by decide, by decide, by decide, by decide, by decide, by decide, by decide⟩

namespace Cert.Loss.Kernel
open Cert.Kernel10Ideal Cert.Kernel10Ideal.Gen

/-- The kernel's program ends with the gradient in its results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9_0) = (fun j : (⟨2, ![4096, 4096]⟩ : Shape).Idx => (data m c).hidden (j 0) (j 1))
      ∧ r.2.mem ((c : Thread nD τ).loc main_v9_1) = (fun j : (⟨2, ![4096, 1024]⟩ : Shape).Idx => (data m c).dz (j 0) (j 1))
      ∧ r.2.mem ((c : Thread nD τ).loc main_v9_2) = (fun j : (⟨2, ![4096, 1024]⟩ : Shape).Idx => (data m c).dz (j 0) (j 1))
      ∧ r.2.mem ((c : Thread nD τ).loc main_v9_3) = (data m c).stat
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.1 c).1 9).trans (final9 m c), ((h.1 c).1 10).trans (final10 m c),
    ((h.1 c).1 11).trans (final11 m c), ((h.1 c).1 12).trans (final12 m c), h.2 c⟩) (θ_run_and (run_main m ρ) (unchanged m ρ))

attribute [local instance] Cert.Pre_finite10.Gen.facts in
/-- The test of the arguments says that they hold real numbers. -/
theorem finite (m : (ℓ : Loc nD τ sig) → Buf (Elt Ideal) ℓ) (h : Cert.Pre_Kernel10Ideal_finite10 m) (c : Dev nD) : (data m c).Finite := by
  have h := congrFun (h c) fun a => a.elim0
  unfold Cert.Pre_finite10.fn Cert.Pre_finite10.fn_part1 at h
  obtain ⟨h, h7⟩ := Norm.both_of_andi _ _ h
  obtain ⟨h, h6⟩ := Norm.both_of_andi _ _ h
  obtain ⟨h, h5⟩ := Norm.both_of_andi _ _ h
  obtain ⟨h, h4⟩ := Norm.both_of_andi _ _ h
  obtain ⟨h, h3⟩ := Norm.both_of_andi _ _ h
  obtain ⟨h, h2⟩ := Norm.both_of_andi _ _ h
  obtain ⟨h0, h1⟩ := Norm.both_of_andi _ _ h
  exact ⟨Norm.isReal_of_all _ _ _ _ _ h0, Norm.isReal_of_all _ _ _ _ _ h1, Norm.isReal_of_all _ _ _ _ _ h2,
    Norm.isReal_of_all _ _ _ _ _ h3, Norm.isReal_of_all _ _ _ _ _ h4, Norm.isReal_of_all _ _ _ _ _ h5,
    Norm.isReal_of_all _ _ _ _ _ h6, Norm.isReal_of_all _ _ _ _ _ h7⟩

end Cert.Loss.Kernel

namespace Cert.Loss.Reference
open Cert.Reference10Ideal Cert.Reference10Ideal.Gen

/-- So does the reference's when the arguments hold real numbers. -/
theorem run (m : (ℓ : Loc nD τ sig) → Buf (Elt Ideal) ℓ) (ρ : Dev nD → PrngReg) (hD : ∀ c, (data m c).Finite) :
    θ_run defs (onTc (τ := τ) (main (F := Ideal))) ⟨m, fun _ => 0, ρ⟩ fun r => ∀ c : Dev nD,
      r.2.mem ((c : Thread nD τ).loc main_v90) = (fun j : (⟨2, ![4096, 4096]⟩ : Shape).Idx => (data m c).hidden (j 0) (j 1))
      ∧ r.2.mem ((c : Thread nD τ).loc main_v87) = (fun j : (⟨2, ![4096, 1024]⟩ : Shape).Idx => (data m c).dz (j 0) (j 1))
      ∧ r.2.mem ((c : Thread nD τ).loc main_v91) = (fun j : (⟨2, ![4096, 1024]⟩ : Shape).Idx => (data m c).dz (j 0) (j 1))
      ∧ r.2.mem ((c : Thread nD τ).loc main_v92) = (data m c).stat
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans res_u, (h c).2.1.trans (res_dz (hD c)),
    (h c).2.2.1.trans (res_dzb (hD c)), (h c).2.2.2.1.trans (stat_eq (hD c)), (h c).2.2.2.2⟩) (Value.run m ρ)

end Cert.Loss.Reference

namespace Cert.Loss

/-- The reference ends, leaves its arguments alone and, having no semaphore, its counters at zero. -/
theorem reference_frame : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run m ρ)

attribute [local instance] Cert.Pre_finite10.Gen.facts in
/-- From equal finite arguments the two programs end with equal results. -/
theorem algebraic : Cert.algebraic_Kernel10Ideal_Reference10Ideal_pre_finite10 := by
  intro m g m' g' hpre hagree
  have e : ∀ c, Reference.data m' c = Kernel.data m c := fun c => by
    obtain ⟨h0, h1, h2, h3, h4, h5, h6, h7⟩ := hagree c
    unfold Reference.data Kernel.data
    rw [← h0, ← h1, ← h2, ← h3, ← h4, ← h5, ← h6, ← h7]
  refine ⟨_, _, _, _, Kernel.run m g, (θ_run _ _ _).mono (fun r h c => ?_)
    (Reference.run m' g' fun c => e c ▸ Kernel.finite m hpre c)⟩
  rw [← e c]
  exact h c

end Cert.Loss
end
-- ==== Proof.Merge.Spec.lean ====
/- The forward pass of the gated merge and of the layer norm after it, written as plain sums over extended reals.

   Two attention branches are projected, weighted by sigmoid gates, added and projected once more; the input, scaled, is
   added, and each row of the sum is normed, scaled and shifted. -/
module

public import proofs.«01_k».proof.Proof.Mix.Spec
public import proofs.«01_k».proof.Proof.Common.Norm

@[expose] public section

noncomputable section

open Idealize.ShloMosaic

namespace Cert.Merge
open Cert.Norm Cert.Mix

/-- The two branches, the gates' logits and bias, the input, the projections, and the norm's scale and shift. -/
structure Data where
  oA : Mat 4096 512
  oB : Mat 4096 512
  gates : Mat 4096 2048
  x : Mat 4096 1024
  bias : Mat 2 1024
  wA : Mat 512 1024
  wB : Mat 512 1024
  wOut : Mat 1024 1024
  g : Mat 1 1024
  b : Mat 1 1024

namespace Data
variable (D : Data)

/-- The gated sum of the projected branches. -/
def mixed (n : Fin 4096) (c : Fin 1024) : EReal :=
  gate D.gates D.bias 0 n c * branch D.oA D.wA n c + gate D.gates D.bias 1 n c * branch D.oB D.wB n c

/-- A row before the norm. -/
def line (n : Fin 4096) : Row := fun k =>
  Ideal.ofBits .f32 0x3F9837F0#32 * D.x (ix2 n k) + ∑ c : Fin 1024, D.mixed n c * D.wOut (ix2 c k)

/-- An entry of the result. -/
def result (n : Fin 4096) (k : Fin 1024) : EReal := xhat (D.line n) k * D.g (ix2 0 k) + D.b (ix2 0 k)

end Data

end Cert.Merge
end
-- ==== Proof.Merge.Kernel.lean ====
/- What the kernel's six results hold: at each grid point, a tile of 512 rows of the forward merge and of the norm. -/
module

public import proofs.«01_k».proof.Proof.Merge.Spec
public import proofs.«01_k».proof.Proof.Common.Rows
public import proofs.«01_k».proof.Proof.Gen.Kernel11Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge.Kernel
open Cert.Norm Cert.Mix Cert.Rows Cert.Kernel11Ideal Cert.Kernel11Ideal.Gen
variable (m : (ℓ : Loc nD τ sig) → Buf (Elt Ideal) ℓ)

/-- The kernel's arguments. -/
def data (c : Dev nD) : Data where
  oA := m ((c : Thread nD τ).loc main_arg0)
  oB := m ((c : Thread nD τ).loc main_arg1)
  gates := m ((c : Thread nD τ).loc main_arg2)
  x := m ((c : Thread nD τ).loc main_arg3)
  bias := m ((c : Thread nD τ).loc main_arg4)
  wA := m ((c : Thread nD τ).loc main_arg5)
  wB := m ((c : Thread nD τ).loc main_arg6)
  wOut := m ((c : Thread nD τ).loc main_arg7)
  g := m ((c : Thread nD τ).loc main_arg8)
  b := m ((c : Thread nD τ).loc main_arg9)

/-- Row `r` of the token tile at point `t`. -/
def row (t : Fin cfg0.N) (r : Fin 512) : Fin 4096 := ⟨t.val * 512 + r.val, by
  have : t.val < 8 := lt_of_lt_of_eq t.isLt (by decide +kernel); omega⟩

/-- Every window's block at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ t.val < 8 :=
  (by decide +kernel : ∀ t : Fin grid0.N, _)

variable (c : Dev nD) (t : Fin cfg0.N)

theorem read0 (r k : Fin 512) : iblk m c 0 t (ix2 r k) = (data m c).oA (ix2 (row t r) k) := by
  show _ = m ((c : Thread nD τ).loc main_arg0) (ix2 (row t r) k)
  blk_ext! [iblk, V, idx t, row]

theorem read1 (r k : Fin 512) : iblk m c 1 t (ix2 r k) = (data m c).oB (ix2 (row t r) k) := by
  show _ = m ((c : Thread nD τ).loc main_arg1) (ix2 (row t r) k)
  blk_ext! [iblk, V, idx t, row]

theorem read2 (r : Fin 512) (k : Fin 2048) : iblk m c 2 t (ix2 r k) = (data m c).gates (ix2 (row t r) k) := by
  show _ = m ((c : Thread nD τ).loc main_arg2) (ix2 (row t r) k)
  blk_ext! [iblk, V, idx t, row]

theorem read3 (r : Fin 512) (k : Fin 1024) : iblk m c 3 t (ix2 r k) = (data m c).x (ix2 (row t r) k) := by
  show _ = m ((c : Thread nD τ).loc main_arg3) (ix2 (row t r) k)
  blk_ext! [iblk, V, idx t, row]

theorem read4 (r : Fin 2) (k : Fin 1024) : iblk m c 4 t (ix2 r k) = (data m c).bias (ix2 r k) := by
  show _ = m ((c : Thread nD τ).loc main_arg4) (ix2 r k)
  blk_ext! [iblk, V, idx t, row]

theorem read5 (r : Fin 512) (k : Fin 1024) : iblk m c 5 t (ix2 r k) = (data m c).wA (ix2 r k) := by
  show _ = m ((c : Thread nD τ).loc main_arg5) (ix2 r k)
  blk_ext! [iblk, V, idx t, row]

theorem read6 (r : Fin 512) (k : Fin 1024) : iblk m c 6 t (ix2 r k) = (data m c).wB (ix2 r k) := by
  show _ = m ((c : Thread nD τ).loc main_arg6) (ix2 r k)
  blk_ext! [iblk, V, idx t, row]

theorem read7 (r k : Fin 1024) : iblk m c 7 t (ix2 r k) = (data m c).wOut (ix2 r k) := by
  show _ = m ((c : Thread nD τ).loc main_arg7) (ix2 r k)
  blk_ext! [iblk, V, idx t, row]

theorem read8 (k : Fin 1024) : iblk m c 8 t (ix2 (0 : Fin 1) k) = (data m c).g (ix2 0 k) := by
  show _ = m ((c : Thread nD τ).loc main_arg8) (ix2 0 k)
  blk_ext! [iblk, V, idx t, row]

theorem read9 (k : Fin 1024) : iblk m c 9 t (ix2 (0 : Fin 1) k) = (data m c).b (ix2 0 k) := by
  show _ = m ((c : Thread nD τ).loc main_arg9) (ix2 0 k)
  blk_ext! [iblk, V, idx t, row]

/-- The first branch's projection on the tile, -/
def yA : FVec Ideal S512x1024 .f32 :=
  k0_pay14 (iblk m c 0 t) (iblk m c 1 t) (iblk m c 2 t) (iblk m c 3 t) (iblk m c 4 t) (iblk m c 5 t)
    (iblk m c 6 t) (iblk m c 7 t) (iblk m c 8 t) (iblk m c 9 t)

/-- the second's, -/
def yB : FVec Ideal S512x1024 .f32 :=
  k0_pay15 (iblk m c 0 t) (iblk m c 1 t) (iblk m c 2 t) (iblk m c 3 t) (iblk m c 4 t) (iblk m c 5 t)
    (iblk m c 6 t) (iblk m c 7 t) (iblk m c 8 t) (iblk m c 9 t)

/-- the first gate, -/
def gA : FVec Ideal S512x1024 .f32 :=
  k0_pay16 (iblk m c 0 t) (iblk m c 1 t) (iblk m c 2 t) (iblk m c 3 t) (iblk m c 4 t) (iblk m c 5 t)
    (iblk m c 6 t) (iblk m c 7 t) (iblk m c 8 t) (iblk m c 9 t)

/-- and what the second gate is one over. -/
def gB : FVec Ideal S512x1024 .f32 :=
  k0_pay17 (iblk m c 0 t) (iblk m c 1 t) (iblk m c 2 t) (iblk m c 3 t) (iblk m c 4 t) (iblk m c 5 t)
    (iblk m c 6 t) (iblk m c 7 t) (iblk m c 8 t) (iblk m c 9 t)

/-- The ones it is under. -/
def ones : FVec Ideal S512x1024 .f32 :=
  k0_pay18 (iblk m c 0 t) (iblk m c 1 t) (iblk m c 2 t) (iblk m c 3 t) (iblk m c 4 t) (iblk m c 5 t)
    (iblk m c 6 t) (iblk m c 7 t) (iblk m c 8 t) (iblk m c 9 t)

variable (r : Fin 512) (k : Fin 1024)

theorem yA_at : yA m c t (ix2 r k) = branch (data m c).oA (data m c).wA (row t r) k := by
  pointwise [yA, k0_pay14, k0_pay3, branch]
  simp only [read0, read5]

theorem yB_at : yB m c t (ix2 r k) = branch (data m c).oB (data m c).wB (row t r) k := by
  pointwise [yB, k0_pay15, k0_pay4, branch]
  simp only [read1, read6]

theorem gA_at : gA m c t (ix2 r k) = gate (data m c).gates (data m c).bias 0 (row t r) k := by
  pointwise [gA, k0_pay16, k0_pay5, gate, col, zero_sub]
  simp only [read2, read4]

theorem gB_at : Ideal.div 1 (gB m c t (ix2 r k)) = gate (data m c).gates (data m c).bias 1 (row t r) k := by
  pointwise [gB, k0_pay17, k0_pay6, gate, col, zero_sub]
  simp only [read2, read4]

/-- The gated sum on the tile, -/
theorem mixed_at : k0_pay8 (yA m c t) (yB m c t) (gA m c t) (gB m c t) (ones m c t) (ix2 r k) = (data m c).mixed (row t r) k := by
  pointwise [k0_pay8, ones, k0_pay18, k0_pay7, Data.mixed]
  rw [gB_at, yA_at, yB_at, gA_at]

/-- the row before the norm, less its mean, -/
theorem cen_at : k0_pay9 (yA m c t) (yB m c t) (gA m c t) (gB m c t) (ones m c t) (iblk m c 3 t) (iblk m c 7 t) (ix2 r k)
    = cen ((data m c).line (row t r)) k := by
  have h : ∀ z : FVec Ideal S512x1024 .bf16, k0_pay8 (yA m c t) (yB m c t) (gA m c t) (gB m c t) (ones m c t) = z →
      k0_pay9 (yA m c t) (yB m c t) (gA m c t) (gB m c t) (ones m c t) (iblk m c 3 t) (iblk m c 7 t) (ix2 r k)
      = cen (fun k => Ideal.ofBits .f32 0x3F9837F0#32 * iblk m c 3 t (ix2 r k) + ∑ n : Fin 1024, z (ix2 r n) * iblk m c 7 t (ix2 n k)) k := by
    intro z hz
    unfold k0_pay9
    rw [hz]
    pointwise [cen, mean, width]
  rw [h _ rfl]
  simp only [mixed_at, read3, read7]
  rfl

/-- the reciprocal of its deviation, -/
theorem rstd_at : k0_pay10 (yA m c t) (yB m c t) (gA m c t) (gB m c t) (ones m c t) (iblk m c 3 t) (iblk m c 7 t) (ix2 (n1 := 1) r 0)
    = rstd ((data m c).line (row t r)) := by
  have h : ∀ z : FVec Ideal S512x1024 .f32, k0_pay9 (yA m c t) (yB m c t) (gA m c t) (gB m c t) (ones m c t) (iblk m c 3 t) (iblk m c 7 t) = z →
      k0_pay10 (yA m c t) (yB m c t) (gA m c t) (gB m c t) (ones m c t) (iblk m c 3 t) (iblk m c 7 t) (ix2 (n1 := 1) r 0)
      = Ideal.rsqrt (mean (fun k => z (ix2 r k) * z (ix2 r k)) + eps) := by
    intro z hz
    unfold k0_pay10
    rw [hz]
    pointwise [mean, width, eps]
  rw [h _ rfl]
  simp only [cen_at]
  rfl

/-- and the normed row. -/
theorem xhat_at : k0_pay11 (yA m c t) (yB m c t) (gA m c t) (gB m c t) (ones m c t) (iblk m c 3 t) (iblk m c 7 t) (ix2 r k)
    = xhat ((data m c).line (row t r)) k := by
  pointwise [k0_pay11]
  rw [cen_at, rstd_at]
  rfl

theorem result_at : k0_pay12 (yA m c t) (yB m c t) (gA m c t) (gB m c t) (ones m c t) (iblk m c 3 t) (iblk m c 7 t) (iblk m c 8 t) (iblk m c 9 t)
    (ix2 r k) = (data m c).result (row t r) k := by
  pointwise [k0_pay12]
  rw [xhat_at, read8, read9]
  rfl

theorem lanes_at (l : Fin 128) : k0_pay13 (yA m c t) (yB m c t) (gA m c t) (gB m c t) (ones m c t) (iblk m c 3 t) (iblk m c 7 t) (ix2 r l)
    = rstd ((data m c).line (row t r)) := by
  pointwise [k0_pay13]
  exact rstd_at m c t r

/-- The normed, scaled and shifted rows. -/
theorem final10 : (dats m 0 c).arrAt 10 (cfgs 0).N = fun j : (⟨2, ![4096, 1024]⟩ : Shape).Idx => (data m c).result (j 0) (j 1) := by
  refine (dats m 0 c).arrAt_eq_of_covers 10 _ (by decide +kernel) fun t _ y => ?_
  obtain ⟨r, k, rfl⟩ := exists_ix2 (n := 512) (k := 1024) y
  have e : (win0_10.blk t).view.emb (ix2 r k) = ix2 (row t r) k := by blk_ext [idx t, row]
  blk_simp
  rw [e, after0_10]
  frame_out
  exact result_at m c t r k

/-- The normed rows. -/
theorem final11 : (dats m 0 c).arrAt 11 (cfgs 0).N = fun j : (⟨2, ![4096, 1024]⟩ : Shape).Idx => xhat ((data m c).line (j 0)) (j 1) := by
  refine (dats m 0 c).arrAt_eq_of_covers 11 _ (by decide +kernel) fun t _ y => ?_
  obtain ⟨r, k, rfl⟩ := exists_ix2 (n := 512) (k := 1024) y
  have e : (win0_11.blk t).view.emb (ix2 r k) = ix2 (row t r) k := by blk_ext [idx t, row]
  blk_simp
  rw [e, after0_11]
  frame_out
  exact xhat_at m c t r k

/-- The reciprocals of the deviations. -/
theorem final12 : (dats m 0 c).arrAt 12 (cfgs 0).N = fun j : (⟨2, ![4096, 128]⟩ : Shape).Idx => rstd ((data m c).line (j 0)) := by
  refine (dats m 0 c).arrAt_eq_of_covers 12 _ (by decide +kernel) fun t _ y => ?_
  obtain ⟨r, k, rfl⟩ := exists_ix2 (n := 512) (k := 128) y
  have e : (win0_12.blk t).view.emb (ix2 r k) = ix2 (row t r) k := by blk_ext [idx t, row]
  blk_simp
  rw [e, after0_12]
  frame_out
  exact lanes_at m c t r k

/-- The first branch's projection, -/
theorem final13 : (dats m 0 c).arrAt 13 (cfgs 0).N = fun j : (⟨2, ![4096, 1024]⟩ : Shape).Idx =>
    branch (data m c).oA (data m c).wA (j 0) (j 1) := by
  refine (dats m 0 c).arrAt_eq_of_covers 13 _ (by decide +kernel) fun t _ y => ?_
  obtain ⟨r, k, rfl⟩ := exists_ix2 (n := 512) (k := 1024) y
  have e : (win0_13.blk t).view.emb (ix2 r k) = ix2 (row t r) k := by blk_ext [idx t, row]
  blk_simp
  rw [e, after0_13]
  frame_out
  exact yA_at m c t r k

/-- the second's, -/
theorem final14 : (dats m 0 c).arrAt 14 (cfgs 0).N = fun j : (⟨2, ![4096, 1024]⟩ : Shape).Idx =>
    branch (data m c).oB (data m c).wB (j 0) (j 1) := by
  refine (dats m 0 c).arrAt_eq_of_covers 14 _ (by decide +kernel) fun t _ y => ?_
  obtain ⟨r, k, rfl⟩ := exists_ix2 (n := 512) (k := 1024) y
  have e : (win0_14.blk t).view.emb (ix2 r k) = ix2 (row t r) k := by blk_ext [idx t, row]
  blk_simp
  rw [e, after0_14]
  frame_out
  exact yB_at m c t r k

/-- and the gated sum. -/
theorem final15 : (dats m 0 c).arrAt 15 (cfgs 0).N = fun j : (⟨2, ![4096, 1024]⟩ : Shape).Idx => (data m c).mixed (j 0) (j 1) := by
  refine (dats m 0 c).arrAt_eq_of_covers 15 _ (by decide +kernel) fun t _ y => ?_
  obtain ⟨r, k, rfl⟩ := exists_ix2 (n := 512) (k := 1024) y
  have e : (win0_15.blk t).view.emb (ix2 r k) = ix2 (row t r) k := by blk_ext [idx t, row]
  blk_simp
  rw [e, after0_15]
  frame_out
  exact mixed_at m c t r k

end Cert.Merge.Kernel
end
-- ==== Proof.Merge.Reference.lean ====
/- The reference's arrays, one host operation after another, and the entries they hold. -/
module

public import proofs.«01_k».proof.Proof.Merge.Spec
public import proofs.«01_k».proof.Proof.Mix.Reference
public import proofs.«01_k».proof.Proof.Common.HostNorm
public import proofs.«01_k».proof.Proof.Gen.Reference11Ideal.Run

@[expose] public section

set_option maxRecDepth 16384

noncomputable section

open Idealize.ShloMosaic Idealize.ShloMosaic.TcCoe Idealize.SL.Sem

namespace Cert.Merge.Reference
open Cert.Norm Cert.Mix Cert.Rows Cert.Mix.Reference Cert.Reference11Ideal Cert.Reference11Ideal.Gen Cert.Reference11Ideal.Value
variable (D : Data)

/-- The first gate, -/
def gateA : FVec Ideal S4096x1024 .f32 :=
  shapeCast S4096x1024 (extractStridedSlice S4096x1x1024 ![0, 0, 0] (gates3 D.gates D.bias) slices_S4096x2x1024_S4096x1x1024_0_0_0) shapeCasts_S4096x1x1024_S4096x1024

/-- the second, -/
def gateB : FVec Ideal S4096x1024 .f32 :=
  shapeCast S4096x1024 (extractStridedSlice S4096x1x1024 ![0, 1, 0] (gates3 D.gates D.bias) slices_S4096x2x1024_S4096x1x1024_0_1_0) shapeCasts_S4096x1x1024_S4096x1024

/-- the gated sum, -/
def mixed : FVec Ideal S4096x1024 .f32 := addf (mulf (gateA D) (branch2 D.oA D.wA)) (mulf (gateB D) (branch2 D.oB D.wB))

/-- and the rows before the norm. -/
def lines : FVec Ideal S4096x1024 .f32 :=
  addf (mulf (broadcastInDim S4096x1024 ![] bcast_S_S4096x1024 (constant S_ .f32 0x3F9837F0#32)) D.x)
    (Host.dotGeneral (φ₁ := .f32) (φ₂ := .f32) dot_S4096x1024_S1024x1024_S4096x1024_1_0_0_1_n_n none (mixed D) D.wOut)

/-- A row vector in every row. -/
def rows (x : FVec Ideal S1x1024 .f32) : FVec Ideal S4096x1024 .f32 :=
  broadcastInDim S4096x1024 ![0, 1] bcast_S1x1024_S4096x1024_0_1 x

/-- A column in every one of 128 lanes. -/
def lanes (x : FVec Ideal S4096x1 .f32) : FVec Ideal S4096x128 .f32 :=
  broadcastInDim S4096x128 ![0, 1] bcast_S4096x1_S4096x128_0_1 x

variable (n : Fin 4096) (k : Fin 1024)

theorem branch2_at (o : FVec Ideal S4096x512 .f32) (w : FVec Ideal S512x1024 .f32) : branch2 o w (ix2 n k) = branch o w n k := by
  pointwise [branch2, branch]

theorem mixed_at : mixed D (ix2 n k) = D.mixed n k := by
  have hA : gateA D (ix2 n k) = gates3 D.gates D.bias (ix3 n 0 k) := by pointwise [gateA]
  have hB : gateB D (ix2 n k) = gates3 D.gates D.bias (ix3 n 1 k) := by pointwise [gateB]
  show gateA D (ix2 n k) * branch2 D.oA D.wA (ix2 n k) + gateB D (ix2 n k) * branch2 D.oB D.wB (ix2 n k) = _
  rw [hA, hB, gates3_at, gates3_at, branch2_at, branch2_at]
  rfl

theorem lines_at : HostNorm.line (lines D) n = D.line n := by
  funext k
  have h : lines D (ix2 n k) = Ideal.ofBits .f32 0x3F9837F0#32 * D.x (ix2 n k) + ∑ c : Fin 1024, mixed D (ix2 n c) * D.wOut (ix2 c k) := by
    pointwise [lines]
  show lines D (ix2 n k) = _
  rw [h]; simp only [mixed_at]; rfl

theorem result_at : addf (mulf (HostNorm.normed (lines D)) (rows D.g)) (rows D.b) (ix2 n k) = D.result n k := by
  have h : ∀ x : FVec Ideal S1x1024 .f32, rows x (ix2 n k) = x (ix2 0 k) := fun x => by pointwise [rows]
  show HostNorm.normed (lines D) (ix2 n k) * rows D.g (ix2 n k) + rows D.b (ix2 n k) = _
  rw [HostNorm.normed_at, lines_at, h, h]; rfl

theorem lanes_at (l : Fin 128) : lanes (HostNorm.rstds (lines D)) (ix2 n l) = rstd (D.line n) := by
  have h : ∀ x : FVec Ideal S4096x1 .f32, lanes x (ix2 n l) = x (ix2 n 0) := fun x => by pointwise [lanes]
  rw [h, HostNorm.rstds_at, lines_at]

/-- What the reference's arguments are to the specification. -/
def data (m : (ℓ : Loc nD τ sig) → Buf (Elt Ideal) ℓ) (c : Dev nD) : Data where
  oA := m ((c : Thread nD τ).loc main_arg0)
  oB := m ((c : Thread nD τ).loc main_arg1)
  gates := m ((c : Thread nD τ).loc main_arg2)
  x := m ((c : Thread nD τ).loc main_arg3)
  bias := m ((c : Thread nD τ).loc main_arg4)
  wA := m ((c : Thread nD τ).loc main_arg5)
  wB := m ((c : Thread nD τ).loc main_arg6)
  wOut := m ((c : Thread nD τ).loc main_arg7)
  g := m ((c : Thread nD τ).loc main_arg8)
  b := m ((c : Thread nD τ).loc main_arg9)

variable (m : (ℓ : Loc nD τ sig) → Buf (Elt Ideal) ℓ) (c : Dev nD)

/-- The normed, scaled and shifted rows. -/
theorem res0 : res_main_v45 m c = fun i => (data m c).result (i 0) (i 1) := by
  have h : res_main_v45 m c = truncf .bf16 (addf (mulf (HostNorm.normed (lines (data m c))) (rows (data m c).g)) (rows (data m c).b)) bitsLt_bf16_f32 := by
    simp only [res_main_v45, HostNorm.normed, HostNorm.rstds, HostNorm.vars, HostNorm.centred, HostNorm.means, HostNorm.overWidth,
      HostNorm.wide, lines, mixed, gateA, gateB, gates3, branch2, rows, data]
    rfl
  rw [h]; funext i
  obtain ⟨r, k, rfl⟩ := exists_ix2 (n := 4096) (k := 1024) i
  exact result_at _ r k

/-- The normed rows. -/
theorem res1 : res_main_v40 m c = fun i => xhat ((data m c).line (i 0)) (i 1) := by
  have h : res_main_v40 m c = HostNorm.normed (lines (data m c)) := by
    simp only [res_main_v40, HostNorm.normed, HostNorm.rstds, HostNorm.vars, HostNorm.centred, HostNorm.means, HostNorm.overWidth,
      HostNorm.wide, lines, mixed, gateA, gateB, gates3, branch2, data]
    rfl
  rw [h]; funext i
  obtain ⟨r, k, rfl⟩ := exists_ix2 (n := 4096) (k := 1024) i
  rw [HostNorm.normed_at, lines_at]
  rfl

/-- The reciprocals of the deviations. -/
theorem res2 : res_main_v46 m c = fun i => rstd ((data m c).line (i 0)) := by
  have h : res_main_v46 m c = lanes (HostNorm.rstds (lines (data m c))) := by
    simp only [res_main_v46, HostNorm.normed, HostNorm.rstds, HostNorm.vars, HostNorm.centred, HostNorm.means, HostNorm.overWidth,
      HostNorm.wide, lines, mixed, gateA, gateB, gates3, branch2, lanes, data]
    rfl
  rw [h]; funext i
  obtain ⟨r, k, rfl⟩ := exists_ix2 (n := 4096) (k := 128) i
  exact lanes_at _ r k

/-- A branch's projection. -/
theorem branch2_eq (o : FVec Ideal S4096x512 .f32) (w : FVec Ideal S512x1024 .f32) :
    truncf .bf16 (branch2 o w) bitsLt_bf16_f32 = fun i : (⟨2, ![4096, 1024]⟩ : Shape).Idx => branch o w (i 0) (i 1) := by
  funext i
  obtain ⟨r, k, rfl⟩ := exists_ix2 (n := 4096) (k := 1024) i
  exact branch2_at r k o w

/-- The gated sum. -/
theorem mixed_eq : truncf .bf16 (mixed D) bitsLt_bf16_f32 = fun i : (⟨2, ![4096, 1024]⟩ : Shape).Idx => D.mixed (i 0) (i 1) := by
  funext i
  obtain ⟨r, k, rfl⟩ := exists_ix2 (n := 4096) (k := 1024) i
  exact mixed_at D r k

end Cert.Merge.Reference
end
-- ==== Proof.Merge.Claim.lean ====
/- The two programs of the forward merge end with the same six arrays. -/
module

public import proofs.«01_k».proof.Defs
public import proofs.«01_k».proof.Proof.Merge.Kernel
public import proofs.«01_k».proof.Proof.Merge.Reference

@[expose] public section

set_option maxRecDepth 16384

noncomputable section

open Idealize.ShloMosaic Idealize.ShloMosaic.TcCoe Idealize.SL.Sem

namespace Cert.Merge.Kernel
open Cert.Norm Cert.Mix Cert.Kernel11Ideal Cert.Kernel11Ideal.Gen

/-- The kernel's program ends with the merge, its norm and what the backward pass keeps in its results, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6_0) = (fun j : (⟨2, ![4096, 1024]⟩ : Shape).Idx => (data m c).result (j 0) (j 1))
      ∧ r.2.mem ((c : Thread nD τ).loc main_v6_1) = (fun j : (⟨2, ![4096, 1024]⟩ : Shape).Idx => xhat ((data m c).line (j 0)) (j 1))
      ∧ r.2.mem ((c : Thread nD τ).loc main_v6_2) = (fun j : (⟨2, ![4096, 128]⟩ : Shape).Idx => rstd ((data m c).line (j 0)))
      ∧ r.2.mem ((c : Thread nD τ).loc main_v6_3) = (fun j : (⟨2, ![4096, 1024]⟩ : Shape).Idx => branch (data m c).oA (data m c).wA (j 0) (j 1))
      ∧ r.2.mem ((c : Thread nD τ).loc main_v6_4) = (fun j : (⟨2, ![4096, 1024]⟩ : Shape).Idx => branch (data m c).oB (data m c).wB (j 0) (j 1))
      ∧ r.2.mem ((c : Thread nD τ).loc main_v6_5) = (fun j : (⟨2, ![4096, 1024]⟩ : Shape).Idx => (data m c).mixed (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h.1 c).1 10).trans (final10 m c), ((h.1 c).1 11).trans (final11 m c), ((h.1 c).1 12).trans (final12 m c),
    ((h.1 c).1 13).trans (final13 m c), ((h.1 c).1 14).trans (final14 m c), ((h.1 c).1 15).trans (final15 m c), h.2 c⟩)
    (θ_run_and (run_main m ρ) (unchanged m ρ))

end Cert.Merge.Kernel

namespace Cert.Merge.Reference
open Cert.Norm Cert.Mix Cert.Reference11Ideal Cert.Reference11Ideal.Gen

/-- So does the reference's. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v45) = (fun j : (⟨2, ![4096, 1024]⟩ : Shape).Idx => (data m c).result (j 0) (j 1))
      ∧ r.2.mem ((c : Thread nD τ).loc main_v40) = (fun j : (⟨2, ![4096, 1024]⟩ : Shape).Idx => xhat ((data m c).line (j 0)) (j 1))
      ∧ r.2.mem ((c : Thread nD τ).loc main_v46) = (fun j : (⟨2, ![4096, 128]⟩ : Shape).Idx => rstd ((data m c).line (j 0)))
      ∧ r.2.mem ((c : Thread nD τ).loc main_v47) = (fun j : (⟨2, ![4096, 1024]⟩ : Shape).Idx => branch (data m c).oA (data m c).wA (j 0) (j 1))
      ∧ r.2.mem ((c : Thread nD τ).loc main_v48) = (fun j : (⟨2, ![4096, 1024]⟩ : Shape).Idx => branch (data m c).oB (data m c).wB (j 0) (j 1))
      ∧ r.2.mem ((c : Thread nD τ).loc main_v49) = (fun j : (⟨2, ![4096, 1024]⟩ : Shape).Idx => (data m c).mixed (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (res0 m c), (h c).2.1.trans (res1 m c), (h c).2.2.1.trans (res2 m c),
    (h c).2.2.2.1.trans (branch2_eq _ _), (h c).2.2.2.2.1.trans (branch2_eq _ _), (h c).2.2.2.2.2.1.trans (mixed_eq (data m c)),
    (h c).2.2.2.2.2.2⟩) (Value.run m ρ)

end Cert.Merge.Reference

namespace Cert.Merge

/-- The reference ends, leaves its arguments alone and, having no semaphore, its counters at zero. -/
theorem reference_frame : Cert.quiescent_Reference11Ideal := fun m ρ _ =>
  (θ_run Cert.Reference11Ideal.defs _ _).mono (fun r h => ⟨fun c => (h c).2.2.2.2.2.2, sem_eq_zero_of_no_sems (by decide) r.2⟩)
    (Reference.run m ρ)

/-- From equal arguments the two programs end with equal results. -/
theorem algebraic : Cert.algebraic_Kernel11Ideal_Reference11Ideal := by
  intro m g m' g' _ hagree
  have e : ∀ c, Reference.data m' c = Kernel.data m c := fun c => by
    obtain ⟨h0, h1, h2, h3, h4, h5, h6, h7, h8, h9⟩ := hagree c
    unfold Reference.data Kernel.data
    rw [← h0, ← h1, ← h2, ← h3, ← h4, ← h5, ← h6, ← h7, ← h8, ← h9]
  refine ⟨_, _, _, _, _, _, Kernel.run m g, (θ_run _ _ _).mono (fun r h c => ?_) (Reference.run m' g')⟩
  rw [← e c]
  exact h c

end Cert.Merge
end
-- ==== Proof.Proj.Spec.lean ====
/- The input projection and what is read off it, written as plain sums over extended reals.

   Every token is projected to 4256 numbers. The first 384 and the 256 after them are scaled to unit root mean square and
   by a gain; the values of the latent attention are projected from the second of the two. The numbers from 672 on are the
   second attention's queries, keys and values and, last, the gates' logits. -/
module

public import proofs.«01_k».proof.Proof.Mix.Spec

@[expose] public section

noncomputable section

open Idealize.ShloMosaic

namespace Cert.Proj
open Cert.Mix

/-- What is added to the mean square. -/
def eps : EReal := Ideal.ofBits .f32 0x358637BD#32

/-- The reciprocal of a row's root mean square, `w` being the row's length as a float. -/
def scale {l : ℕ} (w : EReal) (v : Fin l → EReal) : EReal := Ideal.rsqrt (Ideal.div (∑ k, v k * v k) w + eps)

/-- The tokens, the input projection, the two gains, and the projection to the heads' keys and values. -/
structure Data where
  x : Mat 4096 1024
  wIn : Mat 1024 4256
  gQ : Mat 1 384
  gKv : Mat 1 256
  wKv : Mat 256 1024

/-- Column `k` of the columns from `o` on. -/
def at_ (o : ℕ) {l : ℕ} (h : o + l ≤ 4256) (k : Fin l) : Fin 4256 := ⟨o + k.val, by omega⟩

/-- Among the heads' keys and values, the column of the value `c`: each of the heads has 64 keys before its 64 values. -/
def valueCol (c : Fin 512) : Fin 1024 := ⟨c.val / 64 * 128 + (64 + c.val % 64), by omega⟩

namespace Data
variable (D : Data)

/-- An entry of the projection. -/
def proj (n : Fin 4096) (j : Fin 4256) : EReal := ∑ k : Fin 1024, D.x (ix2 n k) * D.wIn (ix2 k j)

/-- A token's query latent, -/
def qRow (n : Fin 4096) (k : Fin 384) : EReal := D.proj n (at_ 0 (by decide) k)

/-- its key and value latent, -/
def kvRow (n : Fin 4096) (k : Fin 256) : EReal := D.proj n (at_ 384 (by decide) k)

/-- the first, scaled, -/
def q (n : Fin 4096) (k : Fin 384) : EReal := D.qRow n k * scale (Ideal.ofBits .f32 0x43C00000#32) (D.qRow n) * D.gQ (ix2 0 k)

/-- the second, scaled, -/
def kv (n : Fin 4096) (k : Fin 256) : EReal := D.kvRow n k * scale (Ideal.ofBits .f32 0x43800000#32) (D.kvRow n) * D.gKv (ix2 0 k)

/-- its heads' values, -/
def value (n : Fin 4096) (c : Fin 512) : EReal := ∑ k : Fin 256, D.kv n k * D.wKv (ix2 k (valueCol c))

/-- the second attention's queries, keys and values, -/
def dilated (n : Fin 4096) (c : Fin 1536) : EReal := D.proj n (at_ 672 (by decide) c)

/-- and the gates' logits. -/
def gates (n : Fin 4096) (c : Fin 2048) : EReal := D.proj n (at_ 2208 (by decide) c)

end Data

end Cert.Proj
end
-- ==== Proof.Proj.Blocks.lean ====
/- What the kernel reads at each grid point: a tile of 512 tokens and, of the widened input projection, its first and last columns. -/
module

public import proofs.«01_k».proof.Proof.Proj.Spec
public import proofs.«01_k».proof.Proof.Common.Rows
public import proofs.«01_k».proof.Proof.Gen.Kernel12Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proj.Kernel
open Cert.Mix Cert.Rows Cert.Kernel12Ideal Cert.Kernel12Ideal.Gen
variable (m : (ℓ : Loc nD τ sig) → Buf (Elt Ideal) ℓ)

/-- The kernel's arguments. -/
def data (c : Dev nD) : Data where
  x := m ((c : Thread nD τ).loc main_arg0)
  wIn := m ((c : Thread nD τ).loc main_arg1)
  gQ := m ((c : Thread nD τ).loc main_arg2)
  gKv := m ((c : Thread nD τ).loc main_arg4)
  wKv := m ((c : Thread nD τ).loc main_arg5)

/-- Row `r` of the token tile at point `t`. -/
def row (t : Fin cfg0.N) (r : Fin 512) : Fin 4096 := ⟨t.val * 512 + r.val, by
  have : t.val < 8 := lt_of_lt_of_eq t.isLt (by decide +kernel); omega⟩

/-- Every window's block at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_17.index t = ![t.val, 0] ∧ win0_18.index t = ![t.val, 0] ∧ t.val < 8 :=
  (by decide +kernel : ∀ t : Fin grid0.N, _)

variable (c : Dev nD) (t : Fin cfg0.N)

/-- The tokens of the tile, -/
theorem read0 (r : Fin 512) (k : Fin 1024) : iblk m c 0 t (ix2 r k) = (data m c).x (ix2 (row t r) k) := by
  show _ = m ((c : Thread nD τ).loc main_arg0) (ix2 (row t r) k)
  blk_ext! [iblk, V, idx t, row]

/-- the query latent's gain, -/
theorem read5 (k : Fin 384) : iblk m c 5 t (ix2 (0 : Fin 1) k) = (data m c).gQ (ix2 0 k) := by
  show _ = m ((c : Thread nD τ).loc main_arg2) (ix2 0 k)
  blk_ext! [iblk, V, idx t, row]

/-- and the other latent's gain. -/
theorem read6 (k : Fin 256) : iblk m c 6 t (ix2 (0 : Fin 1) k) = (data m c).gKv (ix2 0 k) := by
  show _ = m ((c : Thread nD τ).loc main_arg4) (ix2 0 k)
  blk_ext! [iblk, V, idx t, row]

/-- The values' columns of the projection to keys and values. -/
theorem read4 (k : Fin 256) (j : Fin 512) : iblk m c 4 t (ix2 k j) = (data m c).wKv (ix2 k (valueCol j)) := by
  show _ = m ((c : Thread nD τ).loc main_arg5) (ix2 k (valueCol j))
  blk_simp [iblk, V]
  entry_read
  pointwise [valueCol]
  blk_point [iblk, V, idx t, row, valueCol]

/-- The four pieces of the widened input projection, side by side. -/
def wide (a : FVec Ideal S1024x672 .bf16) (b : FVec Ideal S1024x32 .bf16) (z : FVec Ideal S1024x64 .bf16) (d : FVec Ideal S1024x3584 .bf16) :
    FVec Ideal S1024x4352 .bf16 :=
  concatenate S1024x4352 1 [⟨S1024x672, a⟩, ⟨S1024x32, b⟩, ⟨S1024x64, z⟩, ⟨S1024x3584, d⟩]
    concatenates_S1024x672_S1024x32_S1024x64_S1024x3584_S1024x4352_d1

/-- The widened projection's first columns are the first piece, -/
theorem wide_first (a b z d) (k : Fin 1024) (j : Fin 4352) (h : j.val < 672) : wide a b z d (ix2 k j) = a (ix2 k ⟨j.val, h⟩) := by
  pointwise [wide]
  rw [dif_pos h]

/-- its last ones the fourth. -/
theorem wide_last (a b z d) (k : Fin 1024) (j : Fin 4352) (h : 768 ≤ j.val) :
    wide a b z d (ix2 k j) = d (ix2 k ⟨j.val - 672 - 32 - 64, by omega⟩) := by
  pointwise [wide]
  rw [dif_neg (by omega), dif_neg (by omega), dif_neg (by omega)]

/-- The input projection, cast as the kernel takes it. -/
def win (c : Dev nD) : FVec Ideal S1024x4256 .bf16 := truncf .bf16 ((data m c).wIn : FVec Ideal S1024x4256 .f32) bitsLt_bf16_f32

/-- Its rotary columns, turned. -/
def turned (c : Dev nD) : FVec Ideal S1024x32 .bf16 :=
  concatenate S1024x32 1
    [⟨S1024x16, Host.negf (extractStridedSlice S1024x16 ![0, 16] (extractStridedSlice S1024x32 ![0, 640] (win m c) slices_S1024x4256_S1024x32_0_640) slices_S1024x32_S1024x16_0_16)⟩,
     ⟨S1024x16, extractStridedSlice S1024x16 ![0, 0] (extractStridedSlice S1024x32 ![0, 640] (win m c) slices_S1024x4256_S1024x32_0_640) slices_S1024x32_S1024x16_0_0⟩]
    concatenates_S1024x16_S1024x16_S1024x32_d1

/-- What the host makes of the input projection: its first and last columns stay, others come between. -/
theorem entry1 : V m c main_v9 = wide (extractStridedSlice S1024x672 ![0, 0] (win m c) slices_S1024x4256_S1024x672_0_0) (turned m c)
    (broadcastInDim S1024x64 ![] bcast_S_S1024x64 (constant S_ .bf16 0x0000#16))
    (extractStridedSlice S1024x3584 ![0, 672] (win m c) slices_S1024x4256_S1024x3584_0_672) := by
  simp only [V, hostOps0]
  after_results_simp
  rfl

/-- The input projection's columns. -/
theorem read1 (k : Fin 1024) (j : Fin 4352) (i : Fin 4256) (h : j.val < 672 ∧ i.val = j.val ∨ 768 ≤ j.val ∧ i.val + 96 = j.val) :
    iblk m c 1 t (ix2 k j) = (data m c).wIn (ix2 k i) := by
  have h' : iblk m c 1 t (ix2 k j) = V m c main_v9 (ix2 k j) := by
    blk_simp [iblk]
    exact congrArg (V m c main_v9) (by blk_ext [idx t])
  rw [h', entry1]
  rcases h with ⟨h, hi⟩ | ⟨h, hi⟩
  · rw [wide_first _ _ _ _ k j h]
    pointwise [win]
    exact congrArg _ (congrArg _ (Fin.ext (by show j.val = i.val; omega)))
  · rw [wide_last _ _ _ _ k j h]
    pointwise [win]
    exact congrArg _ (congrArg _ (Fin.ext (by show 672 + (j.val - 672 - 32 - 64) = i.val; omega)))

end Cert.Proj.Kernel
end
-- ==== Proof.Proj.Tile.lean ====
/- What the kernel makes of a tile: the projection's entries, the scaled latents and the heads' values. -/
module

public import proofs.«01_k».proof.Proof.Proj.Blocks
public import proofs.«01_k».proof.Proof.Common.Rows
public import proofs.«01_k».proof.Proof.Gen.Kernel12Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proj.Kernel
open Cert.Mix Cert.Rows Cert.Kernel12Ideal Cert.Kernel12Ideal.Gen
variable (m : (ℓ : Loc nD τ sig) → Buf (Elt Ideal) ℓ) (c : Dev nD) (t : Fin cfg0.N)
variable (r : Fin 512)

/-- The projection's first columns on the tile, as the kernel takes them together, -/
def low (hb : ∀ a, (![0, 0] : Fin 2 → ℕ) a + (![1024, 768] : Fin 2 → ℕ) a ≤ S1024x4352.size a) : FVec Ideal S512x768 .f32 :=
  k0_pay2 (F := Ideal) (iblk m c 0 t) (View.ld (iblk m c 1 t) (Rect.unit ![0, 0] ![1024, 768] hb))

/-- Those of them that are no rotary columns are the projection's own. -/
theorem low_at (hb) (j : Fin 768) (i : Fin 4256) (h : j.val < 672) (hi : i.val = j.val) :
    low m c t hb (ix2 r j) = (data m c).proj (row t r) i := by
  pointwise [low, k0_pay2, k0_pay1, Data.proj]
  refine Finset.sum_congr rfl fun k _ => ?_
  rw [read0, read1 m c t k _ i (.inl ⟨by simpa using h, by simpa using hi⟩)]

/-- So are the second attention's queries, keys and values, -/
theorem dilated_at (k : Fin 1536) (hb) :
    k0_pay3 (F := Ideal) (iblk m c 0 t) (View.ld (iblk m c 1 t) (Rect.unit ![0, 768] ![1024, 1536] hb)) (ix2 r k)
    = (data m c).dilated (row t r) k := by
  pointwise [k0_pay3, k0_pay1, Data.dilated, Data.proj]
  refine Finset.sum_congr rfl fun l _ => ?_
  rw [read0, read1 m c t l _ (at_ 672 (by decide) k) (.inr ⟨by show 768 ≤ 768 + k.val; omega, by show 672 + k.val + 96 = 768 + k.val; omega⟩)]

/-- and the gates' logits. -/
theorem gates_at (k : Fin 2048) (hb) :
    k0_pay4 (F := Ideal) (iblk m c 0 t) (View.ld (iblk m c 1 t) (Rect.unit ![0, 2304] ![1024, 2048] hb)) (ix2 r k)
    = (data m c).gates (row t r) k := by
  pointwise [k0_pay4, k0_pay1, Data.gates, Data.proj]
  refine Finset.sum_congr rfl fun l _ => ?_
  rw [read0, read1 m c t l _ (at_ 2208 (by decide) k) (.inr ⟨by show 768 ≤ 2304 + k.val; omega, by show 2208 + k.val + 96 = 2304 + k.val; omega⟩)]

/-- The query latents of the tile, normed and scaled, -/
theorem q_at (k : Fin 384) (hb) :
    k0_pay6 (k0_pay5 (F := Ideal) (iblk m c 0 t) (View.ld (iblk m c 1 t) (Rect.unit ![0, 0] ![1024, 768] hb)) (iblk m c 5 t)) (ix2 r k)
    = (data m c).q (row t r) k := by
  have h : ∀ z : FVec Ideal S512x768 .f32, low m c t hb = z →
      k0_pay6 (k0_pay5 (F := Ideal) (iblk m c 0 t) (View.ld (iblk m c 1 t) (Rect.unit ![0, 0] ![1024, 768] hb)) (iblk m c 5 t)) (ix2 r k)
      = z (ix2 r ⟨k.val, by omega⟩)
        * scale (Ideal.ofBits .f32 0x43C00000#32) (fun l : Fin 384 => z (ix2 r ⟨l.val, by omega⟩)) * iblk m c 5 t (ix2 0 k) := by
    intro z hz
    unfold k0_pay6 k0_pay5
    rw [show k0_pay2 (F := Ideal) (iblk m c 0 t) (View.ld (iblk m c 1 t) (Rect.unit ![0, 0] ![1024, 768] hb)) = z from hz]
    pointwise [scale, eps]
  have e : ∀ l : Fin 384, low m c t hb (ix2 r ⟨l.val, by omega⟩) = (data m c).qRow (row t r) l := fun l =>
    low_at m c t r hb _ _ (by show l.val < 672; omega) (by show 0 + l.val = l.val; omega)
  rw [h _ rfl, read5]
  simp only [e]
  rfl

/-- the key and value latents, -/
theorem kv_at (k : Fin 256) (hb) :
    k0_pay7 (k0_pay2 (F := Ideal) (iblk m c 0 t) (View.ld (iblk m c 1 t) (Rect.unit ![0, 0] ![1024, 768] hb))) (iblk m c 6 t) (ix2 r k)
    = (data m c).kv (row t r) k := by
  have h : ∀ z : FVec Ideal S512x768 .f32, k0_pay7 (F := Ideal) z (iblk m c 6 t) (ix2 r k)
      = z (ix2 r ⟨384 + k.val, by omega⟩)
        * scale (Ideal.ofBits .f32 0x43800000#32) (fun l : Fin 256 => z (ix2 r ⟨384 + l.val, by omega⟩)) * iblk m c 6 t (ix2 0 k) := by
    intro z
    pointwise [k0_pay7, scale, eps]
  have e : ∀ l : Fin 256, low m c t hb (ix2 r ⟨384 + l.val, by omega⟩) = (data m c).kvRow (row t r) l := fun l =>
    low_at m c t r hb _ _ (by show 384 + l.val < 672; omega) rfl
  refine (h (low m c t hb)).trans ?_
  rw [read6]
  simp only [e]
  rfl

/-- and the heads' values. -/
theorem value_at (k : Fin 512) (hb) :
    k0_pay27 (k0_pay7 (k0_pay2 (F := Ideal) (iblk m c 0 t) (View.ld (iblk m c 1 t) (Rect.unit ![0, 0] ![1024, 768] hb))) (iblk m c 6 t))
      (iblk m c 4 t) (ix2 r k) = (data m c).value (row t r) k := by
  pointwise [k0_pay27, Data.value]
  simp only [kv_at, read4]

end Cert.Proj.Kernel
end
-- ==== Proof.Proj.Kernel.lean ====
/- What the kernel's results hold: at each grid point, a tile of 512 tokens of the projection and of what is read off it. -/
module

public import proofs.«01_k».proof.Proof.Proj.Tile
public import proofs.«01_k».proof.Proof.Common.Rows
public import proofs.«01_k».proof.Proof.Gen.Kernel12Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proj.Kernel
open Cert.Mix Cert.Rows Cert.Kernel12Ideal Cert.Kernel12Ideal.Gen
variable (m : (ℓ : Loc nD τ sig) → Buf (Elt Ideal) ℓ) (c : Dev nD)

/-- A block read whole is read from its first entry on. -/
theorem off_zero : (![0, 0] : Fin 2 → ℕ) = fun _ => 0 := by
  funext a
  fin_cases a <;> rfl

/-- What the kernel names on the way: the projection's first columns, -/
theorem low_eq (t : Fin cfg0.N) : k0_pay28 (iblk m c 0 t) (iblk m c 1 t) (iblk m c 2 t) (iblk m c 3 t) (iblk m c 4 t)
    (iblk m c 5 t) (iblk m c 6 t) (iblk m c 7 t) (iblk m c 8 t) (iblk m c 9 t)
    = low m c t inb_S1024x4352_S1024x768_0_0 := by
  unfold k0_pay28 low
  rw [View.ld_unit_zero off_zero]
  rfl

/-- the scaled query latents, -/
theorem qs_eq (t : Fin cfg0.N) : k0_pay29 (iblk m c 0 t) (iblk m c 1 t) (iblk m c 2 t) (iblk m c 3 t) (iblk m c 4 t)
    (iblk m c 5 t) (iblk m c 6 t) (iblk m c 7 t) (iblk m c 8 t) (iblk m c 9 t)
    = k0_pay5 (F := Ideal) (iblk m c 0 t) (View.ld (iblk m c 1 t) (Rect.unit ![0, 0] ![1024, 768] inb_S1024x4352_S1024x768_0_0)) (iblk m c 5 t) := by
  unfold k0_pay29
  rw [View.ld_unit_zero off_zero, View.ld_unit_zero off_zero]
  rfl

/-- and the scaled key and value latents. -/
theorem kvs_eq (t : Fin cfg0.N) : k0_pay30 (iblk m c 0 t) (iblk m c 1 t) (iblk m c 2 t) (iblk m c 3 t) (iblk m c 4 t)
    (iblk m c 5 t) (iblk m c 6 t) (iblk m c 7 t) (iblk m c 8 t) (iblk m c 9 t)
    = k0_pay7 (F := Ideal) (low m c t inb_S1024x4352_S1024x768_0_0) (iblk m c 6 t) := by
  unfold k0_pay30
  rw [low_eq, View.ld_unit_zero off_zero]

/-- The gates' logits. -/
theorem final11 : (dats m 0 c).arrAt 11 (cfgs 0).N = fun j : (⟨2, ![4096, 2048]⟩ : Shape).Idx => (data m c).gates (j 0) (j 1) := by
  refine (dats m 0 c).arrAt_eq_of_covers 11 _ (by decide +kernel) fun t _ y => ?_
  obtain ⟨r, k, rfl⟩ := exists_ix2 (n := 512) (k := 2048) y
  have e : (win0_11.blk t).view.emb (ix2 r k) = ix2 (row t r) k := by blk_ext [idx t, row]
  blk_simp
  rw [e, after0_11]
  frame_out
  exact gates_at m c t r k _

/-- The second attention's queries, keys and values. -/
theorem final12 : (dats m 0 c).arrAt 12 (cfgs 0).N = fun j : (⟨2, ![4096, 1536]⟩ : Shape).Idx => (data m c).dilated (j 0) (j 1) := by
  refine (dats m 0 c).arrAt_eq_of_covers 12 _ (by decide +kernel) fun t _ y => ?_
  obtain ⟨r, k, rfl⟩ := exists_ix2 (n := 512) (k := 1536) y
  have e : (win0_12.blk t).view.emb (ix2 r k) = ix2 (row t r) k := by blk_ext [idx t, row]
  blk_simp
  rw [e, after0_12]
  frame_out
  exact dilated_at m c t r k _

/-- The heads' values. -/
theorem final15 : (dats m 0 c).arrAt 15 (cfgs 0).N = fun j : (⟨2, ![4096, 512]⟩ : Shape).Idx => (data m c).value (j 0) (j 1) := by
  refine (dats m 0 c).arrAt_eq_of_covers 15 _ (by decide +kernel) fun t _ y => ?_
  obtain ⟨r, k, rfl⟩ := exists_ix2 (n := 512) (k := 512) y
  have e : (win0_15.blk t).view.emb (ix2 r k) = ix2 (row t r) k := by blk_ext [idx t, row]
  blk_simp
  rw [e, after0_15]
  frame_out
  rw [kvs_eq]
  exact value_at m c t r k _

/-- The scaled query latents. -/
theorem final16 : (dats m 0 c).arrAt 16 (cfgs 0).N = fun j : (⟨2, ![4096, 384]⟩ : Shape).Idx => (data m c).q (j 0) (j 1) := by
  refine (dats m 0 c).arrAt_eq_of_covers 16 _ (by decide +kernel) fun t _ y => ?_
  obtain ⟨r, k, rfl⟩ := exists_ix2 (n := 512) (k := 384) y
  have e : (win0_16.blk t).view.emb (ix2 r k) = ix2 (row t r) k := by blk_ext [idx t, row]
  blk_simp
  rw [e, after0_16]
  frame_out
  rw [qs_eq]
  exact q_at m c t r k _

/-- The scaled key and value latents. -/
theorem final17 : (dats m 0 c).arrAt 17 (cfgs 0).N = fun j : (⟨2, ![4096, 256]⟩ : Shape).Idx => (data m c).kv (j 0) (j 1) := by
  refine (dats m 0 c).arrAt_eq_of_covers 17 _ (by decide +kernel) fun t _ y => ?_
  obtain ⟨r, k, rfl⟩ := exists_ix2 (n := 512) (k := 256) y
  have e : (win0_17.blk t).view.emb (ix2 r k) = ix2 (row t r) k := by blk_ext [idx t, row]
  blk_simp
  rw [e, after0_17]
  frame_out
  rw [low_eq]
  exact kv_at m c t r k _

/-- The tokens. -/
theorem final18 : (dats m 0 c).arrAt 18 (cfgs 0).N = fun j : (⟨2, ![4096, 1024]⟩ : Shape).Idx => (data m c).x j := by
  refine (dats m 0 c).arrAt_eq_of_covers 18 _ (by decide +kernel) fun t _ y => ?_
  obtain ⟨r, k, rfl⟩ := exists_ix2 (n := 512) (k := 1024) y
  have e : (win0_18.blk t).view.emb (ix2 r k) = ix2 (row t r) k := by blk_ext [idx t, row]
  blk_simp
  rw [e, after0_18]
  frame_out
  exact read0 m c t r k

end Cert.Proj.Kernel
end
-- ==== Proof.Proj.Reference.lean ====
/- The reference's arrays, one host operation after another, and the entries they hold. -/
module

public import proofs.«01_k».proof.Proof.Proj.Spec
public import proofs.«01_k».proof.Proof.Common.Rows
public import proofs.«01_k».proof.Proof.Gen.Reference12Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proj.Reference
open Cert.Mix Cert.Rows Cert.Reference12Ideal Cert.Reference12Ideal.Gen
variable (D : Data)

/-- The projection, -/
def proj : FVec Ideal S4096x4256 .f32 :=
  Host.dotGeneral (φ₁ := .f32) (φ₂ := .f32) dot_S4096x1024_S1024x4256_S4096x4256_1_0_0_1_n_n none D.x D.wIn

/-- the query latents, -/
def qRows : FVec Ideal S4096x384 .f32 := extractStridedSlice S4096x384 ![0, 0] (proj D) slices_S4096x4256_S4096x384_0_0

/-- the key and value latents, -/
def kvRows : FVec Ideal S4096x256 .f32 := extractStridedSlice S4096x256 ![0, 384] (proj D) slices_S4096x4256_S4096x256_0_384

/-- the first scaled, -/
def q : FVec Ideal S4096x384 .f32 :=
  mulf (mulf (qRows D) (broadcastInDim S4096x384 ![0, 1] bcast_S4096x1_S4096x384_0_1 (Host.rsqrt (addf (Host.divf
      (broadcastInDim S4096x1 ![0] bcast_S4096_S4096x1_0 (Host.reduceAdd (mulf (qRows D) (qRows D)) (constant S_ .f32 0x00000000#32) reducesTo_S4096x384_S4096_d1 h_S_))
      (broadcastInDim S4096x1 ![] bcast_S_S4096x1 (constant S_ .f32 0x43C00000#32)))
      (broadcastInDim S4096x1 ![] bcast_S_S4096x1 (constant S_ .f32 0x358637BD#32))))))
    (broadcastInDim S4096x384 ![0, 1] bcast_S1x384_S4096x384_0_1 D.gQ)

/-- the second scaled, -/
def kv : FVec Ideal S4096x256 .f32 :=
  mulf (mulf (kvRows D) (broadcastInDim S4096x256 ![0, 1] bcast_S4096x1_S4096x256_0_1 (Host.rsqrt (addf (Host.divf
      (broadcastInDim S4096x1 ![0] bcast_S4096_S4096x1_0 (Host.reduceAdd (mulf (kvRows D) (kvRows D)) (constant S_ .f32 0x00000000#32) reducesTo_S4096x256_S4096_d1 h_S_))
      (broadcastInDim S4096x1 ![] bcast_S_S4096x1 (constant S_ .f32 0x43800000#32)))
      (broadcastInDim S4096x1 ![] bcast_S_S4096x1 (constant S_ .f32 0x358637BD#32))))))
    (broadcastInDim S4096x256 ![0, 1] bcast_S1x256_S4096x256_0_1 D.gKv)

/-- the heads' keys and values, -/
def heads : FVec Ideal S4096x1024 .f32 :=
  Host.dotGeneral (φ₁ := .f32) (φ₂ := .f32) dot_S4096x256_S256x1024_S4096x1024_1_0_0_1_n_n none (kv D) D.wKv

/-- and the values alone. -/
def values : FVec Ideal S4096x512 .f32 :=
  shapeCast S4096x512 (extractStridedSlice S4096x8x64 ![0, 0, 64] (shapeCast S4096x8x128 (heads D) shapeCasts_S4096x1024_S4096x8x128)
    slices_S4096x8x128_S4096x8x64_0_0_64) shapeCasts_S4096x8x64_S4096x512

variable (n : Fin 4096)

/-- The projection, -/
theorem proj_at (j : Fin 4256) : proj D (ix2 n j) = D.proj n j := by pointwise [proj, Data.proj]

/-- its columns of the query latent, -/
theorem qRows_at (k : Fin 384) : qRows D (ix2 n k) = D.qRow n k := by
  refine Eq.trans ?_ (proj_at D n (at_ 0 (by decide) k))
  pointwise [qRows, at_]

/-- those of the key and value latent, -/
theorem kvRows_at (k : Fin 256) : kvRows D (ix2 n k) = D.kvRow n k := by
  refine Eq.trans ?_ (proj_at D n (at_ 384 (by decide) k))
  pointwise [kvRows, at_]

/-- the first, normed, -/
theorem q_at (k : Fin 384) : q D (ix2 n k) = D.q n k := by
  pointwise [q, Data.q, scale, eps]
  simp only [qRows_at]

/-- the second, normed, -/
theorem kv_at (k : Fin 256) : kv D (ix2 n k) = D.kv n k := by
  pointwise [kv, Data.kv, scale, eps]
  simp only [kvRows_at]

/-- the heads' keys and values, -/
theorem heads_at (j : Fin 1024) : heads D (ix2 n j) = ∑ k, D.kv n k * D.wKv (ix2 k j) := by
  pointwise [heads]
  simp only [kv_at]

/-- and the values among them. -/
theorem values_at (j : Fin 512) : values D (ix2 n j) = D.value n j := by
  refine Eq.trans ?_ (heads_at D n (valueCol j))
  pointwise [values, valueCol]

/-- What the reference's arguments are to the specification. -/
def data (m : (ℓ : Loc nD τ sig) → Buf (Elt Ideal) ℓ) (c : Dev nD) : Data where
  x := m ((c : Thread nD τ).loc main_arg0)
  wIn := m ((c : Thread nD τ).loc main_arg1)
  gQ := m ((c : Thread nD τ).loc main_arg2)
  gKv := m ((c : Thread nD τ).loc main_arg4)
  wKv := m ((c : Thread nD τ).loc main_arg5)

/-- The results: the gates' logits, -/
theorem gates_eq : truncf .bf16 (extractStridedSlice S4096x2048 ![0, 2208] (proj D) slices_S4096x4256_S4096x2048_0_2208) bitsLt_bf16_f32
    = fun i : (⟨2, ![4096, 2048]⟩ : Shape).Idx => D.gates (i 0) (i 1) := by
  funext i
  obtain ⟨n, k, rfl⟩ := exists_ix2 (n := 4096) (k := 2048) i
  refine Eq.trans ?_ (proj_at D n (at_ 2208 (by decide) k))
  pointwise [at_]

/-- the second attention's queries, keys and values, -/
theorem dilated_eq : truncf .bf16 (extractStridedSlice S4096x1536 ![0, 672] (proj D) slices_S4096x4256_S4096x1536_0_672) bitsLt_bf16_f32
    = fun i : (⟨2, ![4096, 1536]⟩ : Shape).Idx => D.dilated (i 0) (i 1) := by
  funext i
  obtain ⟨n, k, rfl⟩ := exists_ix2 (n := 4096) (k := 1536) i
  refine Eq.trans ?_ (proj_at D n (at_ 672 (by decide) k))
  pointwise [at_]

/-- the first attention's values, -/
theorem values_eq : truncf .bf16 (values D) bitsLt_bf16_f32 = fun i : (⟨2, ![4096, 512]⟩ : Shape).Idx => D.value (i 0) (i 1) := by
  funext i
  obtain ⟨n, k, rfl⟩ := exists_ix2 (n := 4096) (k := 512) i
  exact values_at D n k

/-- and the scaled latents. -/
theorem q_eq : truncf .bf16 (q D) bitsLt_bf16_f32 = fun i : (⟨2, ![4096, 384]⟩ : Shape).Idx => D.q (i 0) (i 1) := by
  funext i
  obtain ⟨n, k, rfl⟩ := exists_ix2 (n := 4096) (k := 384) i
  exact q_at D n k

/-- The second of them. -/
theorem kv_eq : truncf .bf16 (kv D) bitsLt_bf16_f32 = fun i : (⟨2, ![4096, 256]⟩ : Shape).Idx => D.kv (i 0) (i 1) := by
  funext i
  obtain ⟨n, k, rfl⟩ := exists_ix2 (n := 4096) (k := 256) i
  exact kv_at D n k

end Cert.Proj.Reference
end
-- ==== Proof.Proj.Claim.lean ====
/- The two programs of the input projections end with the same six arrays. -/
module

public import proofs.«01_k».proof.Defs
public import proofs.«01_k».proof.Proof.Proj.Kernel
public import proofs.«01_k».proof.Proof.Proj.Reference

@[expose] public section

set_option maxRecDepth 16384

noncomputable section

open Idealize.ShloMosaic Idealize.ShloMosaic.TcCoe Idealize.SL.Sem

namespace Cert.Proj.Kernel
open Cert.Mix Cert.Kernel12Ideal Cert.Kernel12Ideal.Gen

/-- The kernel's program ends with the projection's parts, the scaled latents and the values in its results, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v48_1) = (fun j : (⟨2, ![4096, 2048]⟩ : Shape).Idx => (data m c).gates (j 0) (j 1))
      ∧ r.2.mem ((c : Thread nD τ).loc main_v48_2) = (fun j : (⟨2, ![4096, 1536]⟩ : Shape).Idx => (data m c).dilated (j 0) (j 1))
      ∧ r.2.mem ((c : Thread nD τ).loc main_v48_5) = (fun j : (⟨2, ![4096, 512]⟩ : Shape).Idx => (data m c).value (j 0) (j 1))
      ∧ r.2.mem ((c : Thread nD τ).loc main_v48_6) = (fun j : (⟨2, ![4096, 384]⟩ : Shape).Idx => (data m c).q (j 0) (j 1))
      ∧ r.2.mem ((c : Thread nD τ).loc main_v48_7) = (fun j : (⟨2, ![4096, 256]⟩ : Shape).Idx => (data m c).kv (j 0) (j 1))
      ∧ r.2.mem ((c : Thread nD τ).loc main_v48_8) = (fun j : (⟨2, ![4096, 1024]⟩ : Shape).Idx => (data m c).x j)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 11).trans (final11 m c), ((h.1 c).1 12).trans (final12 m c), ((h.1 c).1 15).trans (final15 m c),
    ((h.1 c).1 16).trans (final16 m c), ((h.1 c).1 17).trans (final17 m c), ((h.1 c).1 18).trans (final18 m c), h.2 c⟩)
    (θ_run_and (run_main m ρ) (unchanged m ρ))

end Cert.Proj.Kernel

namespace Cert.Proj.Reference
open Cert.Mix Cert.Reference12Ideal Cert.Reference12Ideal.Gen

/-- So does the reference's. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v34) = (fun j : (⟨2, ![4096, 2048]⟩ : Shape).Idx => (data m c).gates (j 0) (j 1))
      ∧ r.2.mem ((c : Thread nD τ).loc main_v35) = (fun j : (⟨2, ![4096, 1536]⟩ : Shape).Idx => (data m c).dilated (j 0) (j 1))
      ∧ r.2.mem ((c : Thread nD τ).loc main_v36) = (fun j : (⟨2, ![4096, 512]⟩ : Shape).Idx => (data m c).value (j 0) (j 1))
      ∧ r.2.mem ((c : Thread nD τ).loc main_v37) = (fun j : (⟨2, ![4096, 384]⟩ : Shape).Idx => (data m c).q (j 0) (j 1))
      ∧ r.2.mem ((c : Thread nD τ).loc main_v38) = (fun j : (⟨2, ![4096, 256]⟩ : Shape).Idx => (data m c).kv (j 0) (j 1))
      ∧ r.2.mem ((c : Thread nD τ).loc main_v39) = (fun j : (⟨2, ![4096, 1024]⟩ : Shape).Idx => (data m c).x j)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (gates_eq (data m c)), (h c).2.1.trans (dilated_eq (data m c)),
    (h c).2.2.1.trans (values_eq (data m c)), (h c).2.2.2.1.trans (q_eq (data m c)), (h c).2.2.2.2.1.trans (kv_eq (data m c)),
    (h c).2.2.2.2.2.1.trans rfl, (h c).2.2.2.2.2.2⟩) (Value.run m ρ)

end Cert.Proj.Reference

namespace Cert.Proj

/-- The reference ends, leaves its arguments alone and, having no semaphore, its counters at zero. -/
theorem reference_frame : Cert.quiescent_Reference12Ideal := fun m ρ _ =>
  (θ_run Cert.Reference12Ideal.defs _ _).mono (fun r h => ⟨fun c => (h c).2.2.2.2.2.2, sem_eq_zero_of_no_sems (by decide) r.2⟩)
    (Reference.run m ρ)

/-- From equal arguments the two programs end with equal results. -/
theorem algebraic : Cert.algebraic_Kernel12Ideal_Reference12Ideal := by
  intro m g m' g' _ hagree
  have e : ∀ c, Reference.data m' c = Kernel.data m c := fun c => by
    obtain ⟨h0, h1, h2, h3, h4, h5⟩ := hagree c
    unfold Reference.data Kernel.data
    rw [← h0, ← h1, ← h2, ← h4, ← h5]
  refine ⟨_, _, _, _, _, _, Kernel.run m g, (θ_run _ _ _).mono (fun r h c => ?_) (Reference.run m' g')⟩
  rw [← e c]
  exact h c

end Cert.Proj
end
-- ==== Proof.lean ====
/- The claims, program by program, each from the module that proves it: the frames of each kernel at the machine's
   floats and at the ideal ones and of its reference, the idealization, and the equality of the results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Mix.Claim
public import proofs.«01_k».proof.Proof.Mlp.Claim
public import proofs.«01_k».proof.Proof.Wgrad.Ff1
public import proofs.«01_k».proof.Proof.Wgrad.Ff2
public import proofs.«01_k».proof.Proof.Wgrad.InProj
public import proofs.«01_k».proof.Proof.Wgrad.Out
public import proofs.«01_k».proof.Proof.Wgrad.Head
public import proofs.«01_k».proof.Proof.Wgrad.Query
public import proofs.«01_k».proof.Proof.Wgrad.Latent
public import proofs.«01_k».proof.Proof.Loss.Claim
public import proofs.«01_k».proof.Proof.Merge.Claim
public import proofs.«01_k».proof.Proof.Proj.Claim
public import Idealize.ShloMosaic.Lib.Claim

@[expose] public section

noncomputable section

namespace Cert.Proof

open Idealize.ShloMosaic Idealize.SL.Sem

/-- Everything claimed. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite2.Gen.facts,
  Cert.Pre_finite10.Gen.facts,
  fun m ρ _ => Cert.Kernel.Gen.frame m ρ, fun m ρ _ => Cert.KernelIdeal.Gen.frame m ρ, Cert.Mix.reference_frame,
  fun m ρ _ => Cert.Kernel2.Gen.frame m ρ, fun m ρ _ => Cert.Kernel2Ideal.Gen.frame m ρ, fun m ρ _ => Cert.Kernel2Ideal.Gen.frame m ρ, Cert.Mlp.reference_frame, fun m ρ _ => Cert.Mlp.reference_frame m ρ trivial,
  fun m ρ _ => Cert.Kernel3.Gen.frame m ρ, fun m ρ _ => Cert.Kernel3Ideal.Gen.frame m ρ, Cert.Wgrad.Ff1.reference_frame,
  fun m ρ _ => Cert.Kernel4.Gen.frame m ρ, fun m ρ _ => Cert.Kernel4Ideal.Gen.frame m ρ, Cert.Wgrad.Ff2.reference_frame,
  fun m ρ _ => Cert.Kernel5.Gen.frame m ρ, fun m ρ _ => Cert.Kernel5Ideal.Gen.frame m ρ, Cert.Wgrad.InProj.reference_frame,
  fun m ρ _ => Cert.Kernel6.Gen.frame m ρ, fun m ρ _ => Cert.Kernel6Ideal.Gen.frame m ρ, Cert.Wgrad.Out.reference_frame,
  fun m ρ _ => Cert.Kernel7.Gen.frame m ρ, fun m ρ _ => Cert.Kernel7Ideal.Gen.frame m ρ, Cert.Wgrad.Head.reference_frame,
  fun m ρ _ => Cert.Kernel8.Gen.frame m ρ, fun m ρ _ => Cert.Kernel8Ideal.Gen.frame m ρ, Cert.Wgrad.Query.reference_frame,
  fun m ρ _ => Cert.Kernel9.Gen.frame m ρ, fun m ρ _ => Cert.Kernel9Ideal.Gen.frame m ρ, Cert.Wgrad.Latent.reference_frame,
  fun m ρ _ => Cert.Kernel10.Gen.frame m ρ, fun m ρ _ => Cert.Kernel10Ideal.Gen.frame m ρ, fun m ρ _ => Cert.Kernel10Ideal.Gen.frame m ρ, Cert.Loss.reference_frame, fun m ρ _ => Cert.Loss.reference_frame m ρ trivial,
  fun m ρ _ => Cert.Kernel11.Gen.frame m ρ, fun m ρ _ => Cert.Kernel11Ideal.Gen.frame m ρ, Cert.Merge.reference_frame,
  fun m ρ _ => Cert.Kernel12.Gen.frame m ρ, fun m ρ _ => Cert.Kernel12Ideal.Gen.frame m ρ, Cert.Proj.reference_frame,
  trivial, Cert.Mix.algebraic,
  trivial, Cert.Mlp.algebraic,
  trivial, Cert.Wgrad.Ff1.algebraic,
  trivial, Cert.Wgrad.Ff2.algebraic,
  trivial, Cert.Wgrad.InProj.algebraic,
  trivial, Cert.Wgrad.Out.algebraic,
  trivial, Cert.Wgrad.Head.algebraic,
  trivial, Cert.Wgrad.Query.algebraic,
  trivial, Cert.Wgrad.Latent.algebraic,
  trivial, Cert.Loss.algebraic,
  trivial, Cert.Merge.algebraic,
  trivial, Cert.Proj.algebraic⟩

end Cert.Proof

end
